-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ready [hPre_ready : Cert.Pre_ready.Facts] (m : (ℓ : Loc Cert.KernelIdeal.nD Cert.KernelIdeal.τ Cert.KernelIdeal.sig) → Buf (Elt Ideal) ℓ) : Prop :=
  ∀ c : Dev Cert.KernelIdeal.nD,
    (Cert.Pre_ready.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ready [hPre_ready : Cert.Pre_ready.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ready.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_ready [hKernelIdeal : Cert.KernelIdeal.Facts] [hPre_ready : Cert.Pre_ready.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ready m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_ready [hReferenceIdeal : Cert.ReferenceIdeal.Facts] [hPre_ready : Cert.Pre_ready.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ready m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "sqc" .f32 0x3D122279#32 ((80338380498831 / 2251799813685248 : ℝ) : EReal)

def algebraic_KernelIdeal_ReferenceIdeal_pre_ready [hKernelIdeal : Cert.KernelIdeal.Facts] [hReferenceIdeal : Cert.ReferenceIdeal.Facts] [hPre_ready : Cert.Pre_ready.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ready m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v79) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_ready : Cert.Pre_ready.Facts),
    quiescent_Kernel (hKernel := hKernel)
    ∧ quiescent_KernelIdeal (hKernelIdeal := hKernelIdeal)
    ∧ quiescent_KernelIdeal_pre_ready (hKernelIdeal := hKernelIdeal) (hPre_ready := hPre_ready)
    ∧ quiescent_ReferenceIdeal (hReferenceIdeal := hReferenceIdeal)
    ∧ quiescent_ReferenceIdeal_pre_ready (hReferenceIdeal := hReferenceIdeal) (hPre_ready := hPre_ready)
    ∧ preserves_Kernel_KernelIdeal
    ∧ algebraic_KernelIdeal_ReferenceIdeal_pre_ready (hKernelIdeal := hKernelIdeal) (hReferenceIdeal := hReferenceIdeal) (hPre_ready := hPre_ready)
-- ==== Pre_ready.lean ====
abbrev S4x4096x2048 : Shape := ⟨3, ![4, 4096, 2048]⟩
abbrev S_ : Shape := ⟨0, ![]⟩
abbrev S8192x2048 : Shape := ⟨2, ![8192, 2048]⟩
abbrev S8192 : Shape := ⟨1, ![8192]⟩
abbrev S16384x2048 : Shape := ⟨2, ![16384, 2048]⟩
abbrev S2048 : Shape := ⟨1, ![2048]⟩

class Facts : Prop where
  bcast_S_S4x4096x2048 : S_.BroadcastsInDim S4x4096x2048 (![] : Fin 0 → Fin S4x4096x2048.rank)
  shapeCasts_S4x4096x2048_S16384x2048 : S4x4096x2048.ShapeCasts S16384x2048
  reducesTo_S16384x2048_S2048_d0 : S16384x2048.ReducesTo [0] S2048
  h_S_ : 0 < S_.numel
  bcast_S_S2048 : S_.BroadcastsInDim S2048 (![] : Fin 0 → Fin S2048.rank)
  reducesTo_S2048_S_d0 : S2048.ReducesTo [0] S_
  reducesTo_S8192_S_d0 : S8192.ReducesTo [0] S_

variable [Facts]

def fn_part1 {F : FTy → Type} [FloatOps F] (main_arg4 : IVec S8192 1) (main_arg5 : IVec S_ 32) (main_v17 : FVec F S2048 .f32) : IVec S_ 1 :=
  let main_cst_5 : FVec F S_ .f32 := constant S_ .f32 0x00000000#32
  let main_v18 : FVec F S_ .f32 := (fun x v => Host.reduceAdd x v reducesTo_S2048_S_d0 h_S_) main_v17 main_cst_5
  let main_v19 : FVec F S_ .f32 := Host.sqrt main_v18
  let main_c : IVec S_ 1 := constantI S_ 1 1#1
  let main_v20 : IVec S_ 1 := (fun x v => Host.reduce IntOp.andi x v reducesTo_S8192_S_d0 h_S_) main_arg4 main_c
  let main_c_6 : IVec S_ 32 := constantI S_ 32 0#32
  let main_v21 : IVec S_ 1 := cmpi .sge main_arg5 main_c_6
  let main_v22 : IVec S_ 1 := andi main_v20 main_v21
  let main_cst_7 : FVec F S_ .f32 := constant S_ .f32 0x2B8CBCCC#32
  let main_v23 : IVec S_ 1 := cmpf .oge main_v19 main_cst_7
  let main_cst_8 : FVec F S_ .f32 := constant S_ .f32 0x00000000#32
  let main_v24 : IVec S_ 1 := cmpf .oeq main_v19 main_cst_8
  let main_v25 : IVec S_ 1 := ori main_v23 main_v24
  let main_v26 : IVec S_ 1 := andi main_v22 main_v25
  main_v26

def fn {F : FTy → Type} [FloatOps F] (main_arg0 : FVec F S4x4096x2048 .f32) (main_arg1 : FVec F S_ .f32) (main_arg2 : FVec F S8192x2048 .f32) (main_arg3 : FVec F S8192 .f32) (main_arg4 : IVec S8192 1) (main_arg5 : IVec S_ 32) : IVec S_ 1 :=
  let main_cst : FVec F S_ .f32 := constant S_ .f32 0x3F000000#32
  let main_v0 : FVec F S4x4096x2048 .f32 := broadcastInDim S4x4096x2048 ![] bcast_S_S4x4096x2048 main_cst
  let main_v1 : FVec F S4x4096x2048 .f32 := mulf main_v0 main_arg0
  let main_v2 : FVec F S4x4096x2048 .f32 := mulf main_arg0 main_arg0
  let main_v3 : FVec F S4x4096x2048 .f32 := mulf main_v2 main_arg0
  let main_cst_0 : FVec F S_ .f32 := constant S_ .f32 0x3D372713#32
  let main_v4 : FVec F S4x4096x2048 .f32 := broadcastInDim S4x4096x2048 ![] bcast_S_S4x4096x2048 main_cst_0
  let main_v5 : FVec F S4x4096x2048 .f32 := mulf main_v4 main_v3
  let main_v6 : FVec F S4x4096x2048 .f32 := addf main_arg0 main_v5
  let main_cst_1 : FVec F S_ .f32 := constant S_ .f32 0x3F4C422A#32
  let main_v7 : FVec F S4x4096x2048 .f32 := broadcastInDim S4x4096x2048 ![] bcast_S_S4x4096x2048 main_cst_1
  let main_v8 : FVec F S4x4096x2048 .f32 := mulf main_v7 main_v6
  let main_v9 : FVec F S4x4096x2048 .f32 := Host.tanh main_v8
  let main_cst_2 : FVec F S_ .f32 := constant S_ .f32 0x3F800000#32
  let main_v10 : FVec F S4x4096x2048 .f32 := broadcastInDim S4x4096x2048 ![] bcast_S_S4x4096x2048 main_cst_2
  let main_v11 : FVec F S4x4096x2048 .f32 := addf main_v10 main_v9
  let main_v12 : FVec F S4x4096x2048 .f32 := mulf main_v1 main_v11
  let main_v13 : FVec F S16384x2048 .f32 := shapeCast S16384x2048 main_v12 shapeCasts_S4x4096x2048_S16384x2048
  let main_cst_3 : FVec F S_ .f32 := constant S_ .f32 0x00000000#32
  let main_v14 : FVec F S2048 .f32 := (fun x v => Host.reduceAdd x v reducesTo_S16384x2048_S2048_d0 h_S_) main_v13 main_cst_3
  let main_cst_4 : FVec F S_ .f32 := constant S_ .f32 0x46800000#32
  let main_v15 : FVec F S2048 .f32 := broadcastInDim S2048 ![] bcast_S_S2048 main_cst_4
  let main_v16 : FVec F S2048 .f32 := Host.divf main_v14 main_v15
  let main_v17 : FVec F S2048 .f32 := mulf main_v16 main_v16
  fn_part1 (F := F) main_arg4 main_arg5 main_v17
-- ==== Kernel.lean ====
abbrev S4x4096x2048 : Shape := ⟨3, ![4, 4096, 2048]⟩
abbrev S_ : Shape := ⟨0, ![]⟩
abbrev S8192x2048 : Shape := ⟨2, ![8192, 2048]⟩
abbrev S8192 : Shape := ⟨1, ![8192]⟩
abbrev S16384x2048 : Shape := ⟨2, ![16384, 2048]⟩
abbrev S8x1024 : Shape := ⟨2, ![8, 1024]⟩
abbrev S1x1 : Shape := ⟨2, ![1, 1]⟩
abbrev S512x2048 : Shape := ⟨2, ![512, 2048]⟩
abbrev S1024x2048 : Shape := ⟨2, ![1024, 2048]⟩
abbrev S8x2048 : Shape := ⟨2, ![8, 2048]⟩
abbrev S1x2048 : Shape := ⟨2, ![1, 2048]⟩
abbrev S2048 : Shape := ⟨1, ![2048]⟩
abbrev S1x1x2048 : Shape := ⟨3, ![1, 1, 2048]⟩
abbrev S1 : Shape := ⟨1, ![1]⟩
abbrev S1x1x1 : Shape := ⟨3, ![1, 1, 1]⟩
abbrev S512x1 : Shape := ⟨2, ![512, 1]⟩
abbrev S512 : Shape := ⟨1, ![512]⟩
abbrev S1x512x1 : Shape := ⟨3, ![1, 512, 1]⟩
abbrev S1x8x1024 : Shape := ⟨3, ![1, 8, 1024]⟩

abbrev nBuf : Space → Nat
  | .hbm => 23
  | .vmem => 16
  | .smem => 5
  | _ => 0

abbrev bufTy : (tb : Table) → Fin (tcTables nBuf tb) → BufTy
  | .hbm, ⟨0, _⟩ => ⟨S4x4096x2048, .f32⟩
  | .hbm, ⟨1, _⟩ => ⟨S_, .f32⟩
  | .hbm, ⟨2, _⟩ => ⟨S8192x2048, .f32⟩
  | .hbm, ⟨3, _⟩ => ⟨S8192, .f32⟩
  | .hbm, ⟨4, _⟩ => ⟨S8192, .i1⟩
  | .hbm, ⟨5, _⟩ => ⟨S_, .i32⟩
  | .hbm, ⟨6, _⟩ => ⟨S16384x2048, .f32⟩
  | .hbm, ⟨7, _⟩ => ⟨S8192, .i8⟩
  | .hbm, ⟨8, _⟩ => ⟨S8x1024, .i8⟩
  | .hbm, ⟨9, _⟩ => ⟨S8x1024, .f32⟩
  | .hbm, ⟨10, _⟩ => ⟨S1x1, .f32⟩
  | .hbm, ⟨11, _⟩ => ⟨S1x1, .i32⟩
  | .hbm, ⟨12, _⟩ => ⟨S16384x2048, .f32⟩
  | .hbm, ⟨13, _⟩ => ⟨S8192x2048, .f32⟩
  | .hbm, ⟨14, _⟩ => ⟨S8x1024, .f32⟩
  | .hbm, ⟨15, _⟩ => ⟨S8x1024, .i8⟩
  | .hbm, ⟨16, _⟩ => ⟨S4x4096x2048, .f32⟩
  | .hbm, ⟨17, _⟩ => ⟨S8192, .f32⟩
  | .hbm, ⟨18, _⟩ => ⟨S8192, .i8⟩
  | .hbm, ⟨19, _⟩ => ⟨S_, .i8⟩
  | .hbm, ⟨20, _⟩ => ⟨S8192, .i8⟩
  | .hbm, ⟨21, _⟩ => ⟨S8192, .i1⟩
  | .hbm, ⟨22, _⟩ => ⟨S8192, .i1⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S8x1024, .i8⟩
  | .local _ .vmem, ⟨7, _⟩ => ⟨S8x1024, .f32⟩
  | .local _ .vmem, ⟨8, _⟩ => ⟨S1024x2048, .f32⟩
  | .local _ .vmem, ⟨9, _⟩ => ⟨S1024x2048, .f32⟩
  | .local _ .vmem, ⟨10, _⟩ => ⟨S512x2048, .f32⟩
  | .local _ .vmem, ⟨11, _⟩ => ⟨S512x2048, .f32⟩
  | .local _ .vmem, ⟨12, _⟩ => ⟨S8x1024, .f32⟩
  | .local _ .vmem, ⟨13, _⟩ => ⟨S8x1024, .i8⟩
  | .local _ .vmem, ⟨14, _⟩ => ⟨S8x2048, .f32⟩
  | .local _ .vmem, ⟨15, _⟩ => ⟨S1x2048, .f32⟩
  | .local _ .smem, ⟨0, _⟩ => ⟨S1x1, .f32⟩
  | .local _ .smem, ⟨1, _⟩ => ⟨S1x1, .i32⟩
  | .local _ .smem, ⟨2, _⟩ => ⟨S1x1, .f32⟩
  | .local _ .smem, ⟨3, _⟩ => ⟨S1x1, .f32⟩
  | .local _ .smem, ⟨4, _⟩ => ⟨S1x1, .i32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_stg1_0 : Ref sig .tc := ⟨.smem, 1, rfl⟩
abbrev cc0_scratch2 : Ref sig .tc := ⟨.smem, 2, rfl⟩
abbrev cc0_scratch3 : Ref sig .tc := ⟨.smem, 3, rfl⟩
abbrev cc0_scratch4 : Ref sig .tc := ⟨.smem, 4, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![48], ![false]⟩

def k0_cond6 (i : grid0.Coords) : BitVec 1 :=
  let arg0 : BitVec 32 := BitVec.ofNat 32 (i 0).val
  let c32_i32_5 : BitVec 32 := 32#32
  let v14 : BitVec 1 := Scalar.cmpi .sge arg0 c32_i32_5
  let v15 : BitVec 32 := Scalar.extui v14
  let c0_i32_6 : BitVec 32 := 0#32
  let v16 : BitVec 1 := Scalar.cmpi .ne v15 c0_i32_6
  v16

def k0_cond3 (i : grid0.Coords) : BitVec 1 :=
  let arg0 : BitVec 32 := BitVec.ofNat 32 (i 0).val
  let c16_i32_2 : BitVec 32 := 16#32
  let v6 : BitVec 1 := Scalar.cmpi .sge arg0 c16_i32_2
  let c32_i32 : BitVec 32 := 32#32
  let v7 : BitVec 1 := Scalar.cmpi .slt arg0 c32_i32
  let v8 : BitVec 1 := Scalar.andi v6 v7
  let v9 : BitVec 32 := Scalar.extui v8
  let c0_i32_3 : BitVec 32 := 0#32
  let v10 : BitVec 1 := Scalar.cmpi .ne v9 c0_i32_3
  v10

def k0_cond5 (i : grid0.Coords) : BitVec 1 :=
  let arg0 : BitVec 32 := BitVec.ofNat 32 (i 0).val
  let c31_i32 : BitVec 32 := 31#32
  let v11 : BitVec 1 := Scalar.cmpi .eq arg0 c31_i32
  let v12 : BitVec 32 := Scalar.extui v11
  let c0_i32_4 : BitVec 32 := 0#32
  let v13 : BitVec 1 := Scalar.cmpi .ne v12 c0_i32_4
  v13

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let v0 : BitVec 1 := Scalar.cmpi .slt arg0 c16_i32
  let c32_i32 : BitVec 32 := 32#32
  let v1 : BitVec 1 := Scalar.cmpi .slt arg0 c32_i32
  let c32_i32_0 : BitVec 32 := 32#32
  let v2 : BitVec 32 := Scalar.subi arg0 c32_i32_0
  let c15_i32 : BitVec 32 := 15#32
  let v3 : BitVec 32 := Scalar.select v1 c15_i32 v2
  let v4 : BitVec 32 := Scalar.select v0 arg0 v3
  let c2_i32 : BitVec 32 := 2#32
  let v5 : BitVec 32 := Scalar.muli c2_i32 v4
  let c0_i32 : BitVec 32 := 0#32
  let c0_i32_1 : BitVec 32 := 0#32
  ![v5.toNat, c0_i32.toNat]

def cc0_transform_3 (i : grid0.Coords) : Fin 2 → Nat :=
  let arg0 : BitVec 32 := BitVec.ofNat 32 (i 0).val
  let c16_i32 : BitVec 32 := 16#32
  let v0 : BitVec 1 := Scalar.cmpi .slt arg0 c16_i32
  let c32_i32 : BitVec 32 := 32#32
  let v1 : BitVec 1 := Scalar.cmpi .slt arg0 c32_i32
  let c32_i32_0 : BitVec 32 := 32#32
  let v2 : BitVec 32 := Scalar.subi arg0 c32_i32_0
  let c15_i32 : BitVec 32 := 15#32
  let v3 : BitVec 32 := Scalar.select v1 c15_i32 v2
  let v4 : BitVec 32 := Scalar.select v0 arg0 v3
  let c2_i32 : BitVec 32 := 2#32
  let v5 : BitVec 32 := Scalar.muli c2_i32 v4
  let c1_i32 : BitVec 32 := 1#32
  let v6 : BitVec 32 := Scalar.addi v5 c1_i32
  let c0_i32 : BitVec 32 := 0#32
  let c0_i32_1 : BitVec 32 := 0#32
  ![v6.toNat, c0_i32.toNat]

def cc0_transform_4 (i : grid0.Coords) : Fin 2 → Nat :=
  let arg0 : BitVec 32 := BitVec.ofNat 32 (i 0).val
  let c16_i32 : BitVec 32 := 16#32
  let v0 : BitVec 1 := Scalar.cmpi .slt arg0 c16_i32
  let c32_i32 : BitVec 32 := 32#32
  let v1 : BitVec 1 := Scalar.cmpi .slt arg0 c32_i32
  let c16_i32_0 : BitVec 32 := 16#32
  let v2 : BitVec 32 := Scalar.subi arg0 c16_i32_0
  let c15_i32 : BitVec 32 := 15#32
  let v3 : BitVec 32 := Scalar.select v1 v2 c15_i32
  let c0_i32 : BitVec 32 := 0#32
  let v4 : BitVec 32 := Scalar.select v0 c0_i32 v3
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.subi arg0 c32_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

def cc0_transform_8 (i : grid0.Coords) : Fin 2 → Nat :=
  let arg0 : BitVec 32 := BitVec.ofNat 32 (i 0).val
  let c16_i32 : BitVec 32 := 16#32
  let v0 : BitVec 1 := Scalar.cmpi .slt arg0 c16_i32
  let c32_i32 : BitVec 32 := 32#32
  let v1 : BitVec 1 := Scalar.cmpi .slt arg0 c32_i32
  let c16_i32_0 : BitVec 32 := 16#32
  let v2 : BitVec 32 := Scalar.subi arg0 c16_i32_0
  let c15_i32 : BitVec 32 := 15#32
  let v3 : BitVec 32 := Scalar.select v1 v2 c15_i32
  let c0_i32 : BitVec 32 := 0#32
  let v4 : BitVec 32 := Scalar.select v0 c0_i32 v3
  let c0_i32_1 : BitVec 32 := 0#32
  let c0_i32_2 : BitVec 32 := 0#32
  ![v4.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "sqc" => some ((80338380498831 / 2251799813685248 : ℝ) : EReal)
  | _ => none
-- ==== ReferenceIdeal.lean ====
abbrev S4x4096x2048 : Shape := ⟨3, ![4, 4096, 2048]⟩
abbrev S_ : Shape := ⟨0, ![]⟩
abbrev S8192x2048 : Shape := ⟨2, ![8192, 2048]⟩
abbrev S8192 : Shape := ⟨1, ![8192]⟩
abbrev S16384x2048 : Shape := ⟨2, ![16384, 2048]⟩
abbrev S2048 : Shape := ⟨1, ![2048]⟩
abbrev S1x2048 : Shape := ⟨2, ![1, 2048]⟩
abbrev S1 : Shape := ⟨1, ![1]⟩
abbrev S1x1 : Shape := ⟨2, ![1, 1]⟩
abbrev S8192x1 : Shape := ⟨2, ![8192, 1]⟩

abbrev nBuf : Space → Nat
  | .hbm => 138
  | .vmem => 0
  | .smem => 0
  | _ => 0

abbrev hbmTy0_0 (i : Nat) : BufTy := match i % 128 with
  | 0 => ⟨S4x4096x2048, .f32⟩
  | 1 => ⟨S_, .f32⟩
  | 2 => ⟨S8192x2048, .f32⟩
  | 3 => ⟨S8192, .f32⟩
  | 4 => ⟨S8192, .i1⟩
  | 5 => ⟨S_, .i32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S4x4096x2048, .f32⟩
  | 15 => ⟨S4x4096x2048, .f32⟩
  | 16 => ⟨S4x4096x2048, .f32⟩
  | 17 => ⟨S4x4096x2048, .f32⟩
  | 18 => ⟨S_, .f32⟩
  | 19 => ⟨S4x4096x2048, .f32⟩
  | 20 => ⟨S4x4096x2048, .f32⟩
  | 21 => ⟨S4x4096x2048, .f32⟩
  | 22 => ⟨S_, .f32⟩
  | 23 => ⟨S4x4096x2048, .f32⟩
  | 24 => ⟨S4x4096x2048, .f32⟩
  | 25 => ⟨S4x4096x2048, .f32⟩
  | 26 => ⟨S_, .f32⟩
  | 27 => ⟨S4x4096x2048, .f32⟩
  | 28 => ⟨S4x4096x2048, .f32⟩
  | 29 => ⟨S4x4096x2048, .f32⟩
  | 30 => ⟨S16384x2048, .f32⟩
  | 31 => ⟨S_, .f32⟩
  | 32 => ⟨S2048, .f32⟩
  | 33 => ⟨S_, .f32⟩
  | 34 => ⟨S2048, .f32⟩
  | 35 => ⟨S2048, .f32⟩
  | 36 => ⟨S1x2048, .f32⟩
  | 37 => ⟨S1x2048, .f32⟩
  | 38 => ⟨S_, .f32⟩
  | 39 => ⟨S1, .f32⟩
  | 40 => ⟨S1x1, .f32⟩
  | 41 => ⟨S1x1, .f32⟩
  | 42 => ⟨S_, .f32⟩
  | 43 => ⟨S1x1, .f32⟩
  | 44 => ⟨S1x1, .f32⟩
  | 45 => ⟨S1x2048, .f32⟩
  | 46 => ⟨S1x2048, .f32⟩
  | 47 => ⟨S8192x2048, .f32⟩
  | 48 => ⟨S_, .f32⟩
  | 49 => ⟨S8192, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x2048, .f32⟩
  | 56 => ⟨S8192x2048, .f32⟩
  | 57 => ⟨S8192x2048, .f32⟩
  | 58 => ⟨S8192x2048, .f32⟩
  | 59 => ⟨S_, .f32⟩
  | 60 => ⟨S8192, .f32⟩
  | 61 => ⟨S_, .f32⟩
  | 62 => ⟨S_, .f32⟩
  | 63 => ⟨S8192, .f32⟩
  | 64 => ⟨S8192, .f32⟩
  | 65 => ⟨S8192, .i32⟩
  | 66 => ⟨S_, .f32⟩
  | 67 => ⟨S_, .i32⟩
  | 68 => ⟨S_, .f32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S1, .f32⟩
  | 76 => ⟨S_, .f32⟩
  | 77 => ⟨S_, .i32⟩
  | 78 => ⟨S_, .i1⟩
  | 79 => ⟨S_, .i32⟩
  | 80 => ⟨S_, .i32⟩
  | 81 => ⟨S_, .i32⟩
  | 82 => ⟨S1, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S4x4096x2048, .f32⟩
  | 90 => ⟨S4x4096x2048, .f32⟩
  | 91 => ⟨S_, .f32⟩
  | 92 => ⟨S_, .i1⟩
  | 93 => ⟨S_, .f32⟩
  | 94 => ⟨S_, .f32⟩
  | 95 => ⟨S_, .f32⟩
  | 96 => ⟨S_, .f32⟩
  | 97 => ⟨S_, .f32⟩
  | 98 => ⟨S_, .i32⟩
  | 99 => ⟨S_, .i1⟩
  | 100 => ⟨S_, .i32⟩
  | 101 => ⟨S_, .i32⟩
  | 102 => ⟨S_, .i32⟩
  | 103 => ⟨S1, .i32⟩
  | 104 => ⟨S8192, .f32⟩
  | 105 => ⟨S2048, .f32⟩
  | 106 => ⟨S_, .f32⟩
  | 107 => ⟨S_, .f32⟩
  | 108 => ⟨S1, .f32⟩
  | 109 => ⟨S1, .f32⟩
  | 110 => ⟨S_, .f32⟩
  | 111 => ⟨S1, .f32⟩
  | 112 => ⟨S1, .f32⟩
  | 113 => ⟨S2048, .f32⟩
  | 114 => ⟨S2048, .f32⟩
  | 115 => ⟨S_, .i32⟩
  | 116 => ⟨S_, .i1⟩
  | 117 => ⟨S_, .i32⟩
  | 118 => ⟨S_, .i32⟩
  | 119 => ⟨S_, .i32⟩
  | 120 => ⟨S1, .i32⟩
  | 121 => ⟨S8192x2048, .f32⟩
  | 122 => ⟨S_, .i32⟩
  | 123 => ⟨S_, .i1⟩
  | 124 => ⟨S_, .i32⟩
  | 125 => ⟨S_, .i32⟩
  | 126 => ⟨S_, .i32⟩
  | 127 => ⟨S1, .i32⟩
  | _ => ⟨S4x4096x2048, .f32⟩

abbrev hbmTy0_1 (i : Nat) : BufTy := match i % 128 with
  | 0 => ⟨S_, .f32⟩
  | 1 => ⟨S8192, .f32⟩
  | 2 => ⟨S_, .i32⟩
  | 3 => ⟨S_, .i1⟩
  | 4 => ⟨S_, .i32⟩
  | 5 => ⟨S_, .i32⟩
  | 6 => ⟨S_, .i32⟩
  | 7 => ⟨S1, .i32⟩
  | 8 => ⟨S_, .i1⟩
  | 9 => ⟨S8192, .i1⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_5 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_cst : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_cst_7 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call2_v0 : Ref sig .tc := ⟨.hbm, 47, rfl⟩
abbrev main_call2_cst : Ref sig .tc := ⟨.hbm, 48, rfl⟩
abbrev main_call2_v1 : Ref sig .tc := ⟨.hbm, 49, rfl⟩
abbrev main_call2_v2 : Ref sig .tc := ⟨.hbm, 50, rfl⟩
abbrev main_v25 : Ref sig .tc := ⟨.hbm, 51, rfl⟩
abbrev main_cst_8 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_9 : Ref sig .tc := ⟨.hbm, 59, rfl⟩
abbrev main_v32 : Ref sig .tc := ⟨.hbm, 60, rfl⟩
abbrev main_cst_10 : Ref sig .tc := ⟨.hbm, 61, rfl⟩
abbrev main_call3_v0 : Ref sig .tc := ⟨.hbm, 62, rfl⟩
abbrev main_call3_v1 : Ref sig .tc := ⟨.hbm, 63, rfl⟩
abbrev main_v33 : Ref sig .tc := ⟨.hbm, 64, rfl⟩
abbrev main_call4_v0 : Ref sig .tc := ⟨.hbm, 65, rfl⟩
abbrev main_call4_cst : Ref sig .tc := ⟨.hbm, 66, rfl⟩
abbrev main_call4_c : Ref sig .tc := ⟨.hbm, 67, rfl⟩
abbrev main_call4_v1_0 : Ref sig .tc := ⟨.hbm, 68, rfl⟩
abbrev main_v34 : Ref sig .tc := ⟨.hbm, 69, rfl⟩
abbrev main_c : Ref sig .tc := ⟨.hbm, 70, rfl⟩
abbrev main_v35 : Ref sig .tc := ⟨.hbm, 71, rfl⟩
abbrev main_c_11 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_c_12 : Ref sig .tc := ⟨.hbm, 77, rfl⟩
abbrev main_v40 : Ref sig .tc := ⟨.hbm, 78, rfl⟩
abbrev main_c_13 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_cst_14 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_15 : Ref sig .tc := ⟨.hbm, 91, rfl⟩
abbrev main_v51 : Ref sig .tc := ⟨.hbm, 92, rfl⟩
abbrev main_cst_16 : Ref sig .tc := ⟨.hbm, 93, rfl⟩
abbrev main_cst_17 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_c_18 : Ref sig .tc := ⟨.hbm, 98, rfl⟩
abbrev main_v55 : Ref sig .tc := ⟨.hbm, 99, rfl⟩
abbrev main_c_19 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_call6_v0 : Ref sig .tc := ⟨.hbm, 105, rfl⟩
abbrev main_call6_cst : Ref sig .tc := ⟨.hbm, 106, rfl⟩
abbrev main_call6_v1 : Ref sig .tc := ⟨.hbm, 107, rfl⟩
abbrev main_call6_v2 : Ref sig .tc := ⟨.hbm, 108, rfl⟩
abbrev main_v60 : Ref sig .tc := ⟨.hbm, 109, rfl⟩
abbrev main_cst_20 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_c_21 : Ref sig .tc := ⟨.hbm, 115, rfl⟩
abbrev main_v65 : Ref sig .tc := ⟨.hbm, 116, rfl⟩
abbrev main_c_22 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_c_23 : Ref sig .tc := ⟨.hbm, 122, rfl⟩
abbrev main_v70 : Ref sig .tc := ⟨.hbm, 123, rfl⟩
abbrev main_c_24 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_25 : Ref sig .tc := ⟨.hbm, 128, rfl⟩
abbrev main_v74 : Ref sig .tc := ⟨.hbm, 129, rfl⟩
abbrev main_c_26 : Ref sig .tc := ⟨.hbm, 130, rfl⟩
abbrev main_v75 : Ref sig .tc := ⟨.hbm, 131, rfl⟩
abbrev main_c_27 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_c_28 : Ref sig .tc := ⟨.hbm, 136, rfl⟩
abbrev main_v79 : Ref sig .tc := ⟨.hbm, 137, rfl⟩

abbrev nD : Nat := 1
abbrev τ : Topo := Topo.v7x

variable {F : FTy → Type} [FloatOps F]
-- ==== Proof.Ideal.Base.lean ====
/- What the hand runs of the kernel's body are stated over: its branch conditions in closed form over the grid
   points, the staging and scratch memrefs of a point, and the class's invariant with the scratch buffers named. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The point is one of the first sixteen: the sum of the activations grows. -/
abbrev condA (i : grid0.Coords) : Prop := (Scalar.cmpi .ne (Scalar.extui (Scalar.cmpi .slt (BitVec.ofNat 32 (i 0).val) 16#32)) 0#32) = 1#1
/-- The point is the seventeenth: the sum is normalised. -/
abbrev condN (i : grid0.Coords) : Prop := (Scalar.cmpi .ne (Scalar.extui (Scalar.cmpi .eq (BitVec.ofNat 32 (i 0).val) 16#32)) 0#32) = 1#1
/-- The point is one of the middle sixteen: a block of rows is compared and written. -/
abbrev condB (i : grid0.Coords) : Prop := k0_cond3 i = 1#1
/-- The point is the last of the middle sixteen: the gate is set. -/
abbrev condG (i : grid0.Coords) : Prop := k0_cond5 i = 1#1
/-- The point is one of the last sixteen: a block of the output is written. -/
abbrev condC (i : grid0.Coords) : Prop := k0_cond6 i = 1#1

theorem hcondA : ∀ t : Fin cfg0.N, condA (grid0.coords t) ↔ t.val < 16 :=
  (by decide +kernel : ∀ t : Fin grid0.N, condA (grid0.coords t) ↔ t.val < 16)
theorem hcondN : ∀ t : Fin cfg0.N, condN (grid0.coords t) ↔ t.val = 16 :=
  (by decide +kernel : ∀ t : Fin grid0.N, condN (grid0.coords t) ↔ t.val = 16)
theorem hcondB : ∀ t : Fin cfg0.N, condB (grid0.coords t) ↔ 16 ≤ t.val ∧ t.val < 32 :=
  (by decide +kernel : ∀ t : Fin grid0.N, condB (grid0.coords t) ↔ 16 ≤ t.val ∧ t.val < 32)
theorem hcondG : ∀ t : Fin cfg0.N, condG (grid0.coords t) ↔ t.val = 31 :=
  (by decide +kernel : ∀ t : Fin grid0.N, condG (grid0.coords t) ↔ t.val = 31)
theorem hcondC : ∀ t : Fin cfg0.N, condC (grid0.coords t) ↔ 32 ≤ t.val :=
  (by decide +kernel : ∀ t : Fin grid0.N, condC (grid0.coords t) ↔ 32 ≤ t.val)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl

abbrev ms0_0 (t : Fin cfg0.N) : Memref sig .tc .smem S1x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2048 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x1024 .i8 := win0_10.stage (cfg0.slots t 10)
abbrev hs0_10 (t : Fin cfg0.N) : (ms0_10 t).IsWhole := hstage0_10 ((cfg0.slots t 10).cast nbuf0_10)
abbrev scM0_0 : Memref sig .tc .vmem S8x2048 .f32 := Memref.whole cc0_scratch0
abbrev scM0_1 : Memref sig .tc .vmem S1x2048 .f32 := Memref.whole cc0_scratch1
abbrev scM0_2 : Memref sig .tc .smem S1x1 .f32 := Memref.whole cc0_scratch2
abbrev scM0_3 : Memref sig .tc .smem S1x1 .f32 := Memref.whole cc0_scratch3
abbrev scM0_4 : Memref sig .tc .smem S1x1 .i32 := Memref.whole cc0_scratch4

/-- The class's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.Ideal.Step.lean ====
module

public import proofs.«01_k».proof.Proof.Gen.KernelIdeal.Frame
public import proofs.«01_k».proof.Proof.Gen.KernelIdeal.Skeleton
public import Idealize.ShloMosaic.Lib.WritesUnit
public import Idealize.ShloMosaic.Lib.VecWindow

@[expose] public section

set_option maxRecDepth 16384

noncomputable section

namespace Cert.KernelIdeal.Hand

open Cert.KernelIdeal.Gen
open Idealize.ShloMosaic Idealize.ShloMosaic.TcCoe

variable {F : FTy → Type} [FloatOps F] [Named F]

/-- The word of a one-cell buffer. -/
def sm {α : Type} (x : S1x1.Idx → α) : α := x (Shape.Idx.first (s := S1x1) (by decide))

/-- Eight rows of a half block, from row `o` on. -/
def ld8 (x : Vec F S512x2048 .f32) (o : ℕ) (h : ∀ a, (![o, 0] : Fin 2 → ℕ) a + S8x2048.size a ≤ S512x2048.size a) : Vec F S8x2048 .f32 :=
  View.ld x (Rect.unit (s := S512x2048) ![o, 0] S8x2048.size h)

/-- One step of the accumulation: the accumulator with the activations of the two half blocks added to it, eight rows at a time. -/
def accStep (arg0 : BitVec 32) (x12 : Vec F S8x2048 .f32) (x3 x4 : Vec F S512x2048 .f32) : Vec F S8x2048 .f32 :=
  let v50 : FVec F S8x2048 .f32 := k0_pay7 arg0 (View.ld x12 (Rect.unit (s := S8x2048) ![0, 0] S8x2048.size inb_S8x2048_S8x2048_0_0)) (ld8 x3 0 inb_S512x2048_S8x2048_0_0) (ld8 x3 8 inb_S512x2048_S8x2048_8_0)
  let v52 : FVec F S8x2048 .f32 := k0_pay8 (ld8 x3 16 inb_S512x2048_S8x2048_16_0)
  let v55 : FVec F S8x2048 .f32 := k0_pay9 (ld8 x3 16 inb_S512x2048_S8x2048_16_0)
  let v56 : FVec F S8x2048 .f32 := k0_pay10
  let v95 : FVec F S8x2048 .f32 := k0_pay11 v50 v52 v55 v56 (ld8 x3 24 inb_S512x2048_S8x2048_24_0) (ld8 x3 32 inb_S512x2048_S8x2048_32_0)
  let v97 : FVec F S8x2048 .f32 := k0_pay12 (ld8 x3 40 inb_S512x2048_S8x2048_40_0)
  let v98 : FVec F S8x2048 .f32 := k0_pay13 (ld8 x3 40 inb_S512x2048_S8x2048_40_0)
  let v99 : FVec F S8x2048 .f32 := k0_pay14
  let v140 : FVec F S8x2048 .f32 := k0_pay15 v95 v97 v98 v99 (ld8 x3 48 inb_S512x2048_S8x2048_48_0) (ld8 x3 56 inb_S512x2048_S8x2048_56_0)
  let v142 : FVec F S8x2048 .f32 := k0_pay16 (ld8 x3 64 inb_S512x2048_S8x2048_64_0)
  let v185 : FVec F S8x2048 .f32 := k0_pay17 v140 v142 (ld8 x3 72 inb_S512x2048_S8x2048_72_0) (ld8 x3 80 inb_S512x2048_S8x2048_80_0)
  let v215 : FVec F S8x2048 .f32 := k0_pay18 v185 (ld8 x3 88 inb_S512x2048_S8x2048_88_0) (ld8 x3 96 inb_S512x2048_S8x2048_96_0)
  let v226 : FVec F S8x2048 .f32 := k0_pay20 (ld8 x3 104 inb_S512x2048_S8x2048_104_0)
  let v228 : FVec F S8x2048 .f32 := k0_pay21 (ld8 x3 104 inb_S512x2048_S8x2048_104_0)
  let v260 : FVec F S8x2048 .f32 := k0_pay22 v215 v226 v228 (ld8 x3 112 inb_S512x2048_S8x2048_112_0) (ld8 x3 120 inb_S512x2048_S8x2048_120_0)
  let v269 : FVec F S8x2048 .f32 := k0_pay24 (ld8 x3 128 inb_S512x2048_S8x2048_128_0)
  let v271 : FVec F S8x2048 .f32 := k0_pay25 (ld8 x3 128 inb_S512x2048_S8x2048_128_0)
  let v305 : FVec F S8x2048 .f32 := k0_pay26 v260 v269 v271 (ld8 x3 136 inb_S512x2048_S8x2048_136_0) (ld8 x3 144 inb_S512x2048_S8x2048_144_0)
  let v307 : FVec F S8x2048 .f32 := k0_pay27 (ld8 x3 152 inb_S512x2048_S8x2048_152_0)
  let v314 : FVec F S8x2048 .f32 := k0_pay28 (ld8 x3 152 inb_S512x2048_S8x2048_152_0)
  let v350 : FVec F S8x2048 .f32 := k0_pay29 v305 v307 v314 (ld8 x3 160 inb_S512x2048_S8x2048_160_0) (ld8 x3 168 inb_S512x2048_S8x2048_168_0)
  let v352 : FVec F S8x2048 .f32 := k0_pay30 (ld8 x3 176 inb_S512x2048_S8x2048_176_0)
  let v355 : FVec F S8x2048 .f32 := k0_pay31 (ld8 x3 176 inb_S512x2048_S8x2048_176_0)
  let v356 : FVec F S8x2048 .f32 := k0_pay32
  let v395 : FVec F S8x2048 .f32 := k0_pay33 v350 v352 v355 v356 (ld8 x3 184 inb_S512x2048_S8x2048_184_0) (ld8 x3 192 inb_S512x2048_S8x2048_192_0)
  let v397 : FVec F S8x2048 .f32 := k0_pay34 (ld8 x3 200 inb_S512x2048_S8x2048_200_0)
  let v398 : FVec F S8x2048 .f32 := k0_pay35 (ld8 x3 200 inb_S512x2048_S8x2048_200_0)
  let v399 : FVec F S8x2048 .f32 := k0_pay36
  let v440 : FVec F S8x2048 .f32 := k0_pay37 v395 v397 v398 v399 (ld8 x3 208 inb_S512x2048_S8x2048_208_0) (ld8 x3 216 inb_S512x2048_S8x2048_216_0)
  let v442 : FVec F S8x2048 .f32 := k0_pay38 (ld8 x3 224 inb_S512x2048_S8x2048_224_0)
  let v485 : FVec F S8x2048 .f32 := k0_pay39 v440 v442 (ld8 x3 232 inb_S512x2048_S8x2048_232_0) (ld8 x3 240 inb_S512x2048_S8x2048_240_0)
  let v515 : FVec F S8x2048 .f32 := k0_pay40 v485 (ld8 x3 248 inb_S512x2048_S8x2048_248_0) (ld8 x3 256 inb_S512x2048_S8x2048_256_0)
  let v526 : FVec F S8x2048 .f32 := k0_pay42 (ld8 x3 264 inb_S512x2048_S8x2048_264_0)
  let v528 : FVec F S8x2048 .f32 := k0_pay43 (ld8 x3 264 inb_S512x2048_S8x2048_264_0)
  let v560 : FVec F S8x2048 .f32 := k0_pay44 v515 v526 v528 (ld8 x3 272 inb_S512x2048_S8x2048_272_0) (ld8 x3 280 inb_S512x2048_S8x2048_280_0)
  let v569 : FVec F S8x2048 .f32 := k0_pay46 (ld8 x3 288 inb_S512x2048_S8x2048_288_0)
  let v571 : FVec F S8x2048 .f32 := k0_pay47 (ld8 x3 288 inb_S512x2048_S8x2048_288_0)
  let v605 : FVec F S8x2048 .f32 := k0_pay48 v560 v569 v571 (ld8 x3 296 inb_S512x2048_S8x2048_296_0) (ld8 x3 304 inb_S512x2048_S8x2048_304_0)
  let v607 : FVec F S8x2048 .f32 := k0_pay49 (ld8 x3 312 inb_S512x2048_S8x2048_312_0)
  let v614 : FVec F S8x2048 .f32 := k0_pay50 (ld8 x3 312 inb_S512x2048_S8x2048_312_0)
  let v650 : FVec F S8x2048 .f32 := k0_pay51 v605 v607 v614 (ld8 x3 320 inb_S512x2048_S8x2048_320_0) (ld8 x3 328 inb_S512x2048_S8x2048_328_0)
  let v652 : FVec F S8x2048 .f32 := k0_pay52 (ld8 x3 336 inb_S512x2048_S8x2048_336_0)
  let v655 : FVec F S8x2048 .f32 := k0_pay53 (ld8 x3 336 inb_S512x2048_S8x2048_336_0)
  let v656 : FVec F S8x2048 .f32 := k0_pay54
  let v695 : FVec F S8x2048 .f32 := k0_pay55 v650 v652 v655 v656 (ld8 x3 344 inb_S512x2048_S8x2048_344_0) (ld8 x3 352 inb_S512x2048_S8x2048_352_0)
  let v697 : FVec F S8x2048 .f32 := k0_pay56 (ld8 x3 360 inb_S512x2048_S8x2048_360_0)
  let v698 : FVec F S8x2048 .f32 := k0_pay57 (ld8 x3 360 inb_S512x2048_S8x2048_360_0)
  let v699 : FVec F S8x2048 .f32 := k0_pay58
  let v740 : FVec F S8x2048 .f32 := k0_pay59 v695 v697 v698 v699 (ld8 x3 368 inb_S512x2048_S8x2048_368_0) (ld8 x3 376 inb_S512x2048_S8x2048_376_0)
  let v742 : FVec F S8x2048 .f32 := k0_pay60 (ld8 x3 384 inb_S512x2048_S8x2048_384_0)
  let v785 : FVec F S8x2048 .f32 := k0_pay61 v740 v742 (ld8 x3 392 inb_S512x2048_S8x2048_392_0) (ld8 x3 400 inb_S512x2048_S8x2048_400_0)
  let v815 : FVec F S8x2048 .f32 := k0_pay62 v785 (ld8 x3 408 inb_S512x2048_S8x2048_408_0) (ld8 x3 416 inb_S512x2048_S8x2048_416_0)
  let v826 : FVec F S8x2048 .f32 := k0_pay64 (ld8 x3 424 inb_S512x2048_S8x2048_424_0)
  let v828 : FVec F S8x2048 .f32 := k0_pay65 (ld8 x3 424 inb_S512x2048_S8x2048_424_0)
  let v860 : FVec F S8x2048 .f32 := k0_pay66 v815 v826 v828 (ld8 x3 432 inb_S512x2048_S8x2048_432_0) (ld8 x3 440 inb_S512x2048_S8x2048_440_0)
  let v869 : FVec F S8x2048 .f32 := k0_pay68 (ld8 x3 448 inb_S512x2048_S8x2048_448_0)
  let v871 : FVec F S8x2048 .f32 := k0_pay69 (ld8 x3 448 inb_S512x2048_S8x2048_448_0)
  let v905 : FVec F S8x2048 .f32 := k0_pay70 v860 v869 v871 (ld8 x3 456 inb_S512x2048_S8x2048_456_0) (ld8 x3 464 inb_S512x2048_S8x2048_464_0)
  let v907 : FVec F S8x2048 .f32 := k0_pay71 (ld8 x3 472 inb_S512x2048_S8x2048_472_0)
  let v914 : FVec F S8x2048 .f32 := k0_pay72 (ld8 x3 472 inb_S512x2048_S8x2048_472_0)
  let v950 : FVec F S8x2048 .f32 := k0_pay73 v905 v907 v914 (ld8 x3 480 inb_S512x2048_S8x2048_480_0) (ld8 x3 488 inb_S512x2048_S8x2048_488_0)
  let v952 : FVec F S8x2048 .f32 := k0_pay74 (ld8 x3 496 inb_S512x2048_S8x2048_496_0)
  let v955 : FVec F S8x2048 .f32 := k0_pay75 (ld8 x3 496 inb_S512x2048_S8x2048_496_0)
  let v956 : FVec F S8x2048 .f32 := k0_pay76
  let v995 : FVec F S8x2048 .f32 := k0_pay77 v950 v952 v955 v956 (ld8 x3 504 inb_S512x2048_S8x2048_504_0) (ld8 x4 0 inb_S512x2048_S8x2048_0_0)
  let v997 : FVec F S8x2048 .f32 := k0_pay78 (ld8 x4 8 inb_S512x2048_S8x2048_8_0)
  let v998 : FVec F S8x2048 .f32 := k0_pay79 (ld8 x4 8 inb_S512x2048_S8x2048_8_0)
  let v999 : FVec F S8x2048 .f32 := k0_pay80
  let v1040 : FVec F S8x2048 .f32 := k0_pay81 v995 v997 v998 v999 (ld8 x4 16 inb_S512x2048_S8x2048_16_0) (ld8 x4 24 inb_S512x2048_S8x2048_24_0)
  let v1042 : FVec F S8x2048 .f32 := k0_pay82 (ld8 x4 32 inb_S512x2048_S8x2048_32_0)
  let v1085 : FVec F S8x2048 .f32 := k0_pay83 v1040 v1042 (ld8 x4 40 inb_S512x2048_S8x2048_40_0) (ld8 x4 48 inb_S512x2048_S8x2048_48_0)
  let v1115 : FVec F S8x2048 .f32 := k0_pay84 v1085 (ld8 x4 56 inb_S512x2048_S8x2048_56_0) (ld8 x4 64 inb_S512x2048_S8x2048_64_0)
  let v1126 : FVec F S8x2048 .f32 := k0_pay86 (ld8 x4 72 inb_S512x2048_S8x2048_72_0)
  let v1128 : FVec F S8x2048 .f32 := k0_pay87 (ld8 x4 72 inb_S512x2048_S8x2048_72_0)
  let v1160 : FVec F S8x2048 .f32 := k0_pay88 v1115 v1126 v1128 (ld8 x4 80 inb_S512x2048_S8x2048_80_0) (ld8 x4 88 inb_S512x2048_S8x2048_88_0)
  let v1169 : FVec F S8x2048 .f32 := k0_pay90 (ld8 x4 96 inb_S512x2048_S8x2048_96_0)
  let v1171 : FVec F S8x2048 .f32 := k0_pay91 (ld8 x4 96 inb_S512x2048_S8x2048_96_0)
  let v1205 : FVec F S8x2048 .f32 := k0_pay92 v1160 v1169 v1171 (ld8 x4 104 inb_S512x2048_S8x2048_104_0) (ld8 x4 112 inb_S512x2048_S8x2048_112_0)
  let v1207 : FVec F S8x2048 .f32 := k0_pay93 (ld8 x4 120 inb_S512x2048_S8x2048_120_0)
  let v1214 : FVec F S8x2048 .f32 := k0_pay94 (ld8 x4 120 inb_S512x2048_S8x2048_120_0)
  let v1250 : FVec F S8x2048 .f32 := k0_pay95 v1205 v1207 v1214 (ld8 x4 128 inb_S512x2048_S8x2048_128_0) (ld8 x4 136 inb_S512x2048_S8x2048_136_0)
  let v1252 : FVec F S8x2048 .f32 := k0_pay96 (ld8 x4 144 inb_S512x2048_S8x2048_144_0)
  let v1255 : FVec F S8x2048 .f32 := k0_pay97 (ld8 x4 144 inb_S512x2048_S8x2048_144_0)
  let v1256 : FVec F S8x2048 .f32 := k0_pay98
  let v1295 : FVec F S8x2048 .f32 := k0_pay99 v1250 v1252 v1255 v1256 (ld8 x4 152 inb_S512x2048_S8x2048_152_0) (ld8 x4 160 inb_S512x2048_S8x2048_160_0)
  let v1297 : FVec F S8x2048 .f32 := k0_pay100 (ld8 x4 168 inb_S512x2048_S8x2048_168_0)
  let v1298 : FVec F S8x2048 .f32 := k0_pay101 (ld8 x4 168 inb_S512x2048_S8x2048_168_0)
  let v1299 : FVec F S8x2048 .f32 := k0_pay102
  let v1340 : FVec F S8x2048 .f32 := k0_pay103 v1295 v1297 v1298 v1299 (ld8 x4 176 inb_S512x2048_S8x2048_176_0) (ld8 x4 184 inb_S512x2048_S8x2048_184_0)
  let v1342 : FVec F S8x2048 .f32 := k0_pay104 (ld8 x4 192 inb_S512x2048_S8x2048_192_0)
  let v1385 : FVec F S8x2048 .f32 := k0_pay105 v1340 v1342 (ld8 x4 200 inb_S512x2048_S8x2048_200_0) (ld8 x4 208 inb_S512x2048_S8x2048_208_0)
  let v1415 : FVec F S8x2048 .f32 := k0_pay106 v1385 (ld8 x4 216 inb_S512x2048_S8x2048_216_0) (ld8 x4 224 inb_S512x2048_S8x2048_224_0)
  let v1426 : FVec F S8x2048 .f32 := k0_pay108 (ld8 x4 232 inb_S512x2048_S8x2048_232_0)
  let v1428 : FVec F S8x2048 .f32 := k0_pay109 (ld8 x4 232 inb_S512x2048_S8x2048_232_0)
  let v1460 : FVec F S8x2048 .f32 := k0_pay110 v1415 v1426 v1428 (ld8 x4 240 inb_S512x2048_S8x2048_240_0) (ld8 x4 248 inb_S512x2048_S8x2048_248_0)
  let v1469 : FVec F S8x2048 .f32 := k0_pay112 (ld8 x4 256 inb_S512x2048_S8x2048_256_0)
  let v1471 : FVec F S8x2048 .f32 := k0_pay113 (ld8 x4 256 inb_S512x2048_S8x2048_256_0)
  let v1505 : FVec F S8x2048 .f32 := k0_pay114 v1460 v1469 v1471 (ld8 x4 264 inb_S512x2048_S8x2048_264_0) (ld8 x4 272 inb_S512x2048_S8x2048_272_0)
  let v1507 : FVec F S8x2048 .f32 := k0_pay115 (ld8 x4 280 inb_S512x2048_S8x2048_280_0)
  let v1514 : FVec F S8x2048 .f32 := k0_pay116 (ld8 x4 280 inb_S512x2048_S8x2048_280_0)
  let v1550 : FVec F S8x2048 .f32 := k0_pay117 v1505 v1507 v1514 (ld8 x4 288 inb_S512x2048_S8x2048_288_0) (ld8 x4 296 inb_S512x2048_S8x2048_296_0)
  let v1552 : FVec F S8x2048 .f32 := k0_pay118 (ld8 x4 304 inb_S512x2048_S8x2048_304_0)
  let v1555 : FVec F S8x2048 .f32 := k0_pay119 (ld8 x4 304 inb_S512x2048_S8x2048_304_0)
  let v1556 : FVec F S8x2048 .f32 := k0_pay120
  let v1595 : FVec F S8x2048 .f32 := k0_pay121 v1550 v1552 v1555 v1556 (ld8 x4 312 inb_S512x2048_S8x2048_312_0) (ld8 x4 320 inb_S512x2048_S8x2048_320_0)
  let v1597 : FVec F S8x2048 .f32 := k0_pay122 (ld8 x4 328 inb_S512x2048_S8x2048_328_0)
  let v1598 : FVec F S8x2048 .f32 := k0_pay123 (ld8 x4 328 inb_S512x2048_S8x2048_328_0)
  let v1599 : FVec F S8x2048 .f32 := k0_pay124
  let v1640 : FVec F S8x2048 .f32 := k0_pay125 v1595 v1597 v1598 v1599 (ld8 x4 336 inb_S512x2048_S8x2048_336_0) (ld8 x4 344 inb_S512x2048_S8x2048_344_0)
  let v1642 : FVec F S8x2048 .f32 := k0_pay126 (ld8 x4 352 inb_S512x2048_S8x2048_352_0)
  let v1685 : FVec F S8x2048 .f32 := k0_pay127 v1640 v1642 (ld8 x4 360 inb_S512x2048_S8x2048_360_0) (ld8 x4 368 inb_S512x2048_S8x2048_368_0)
  let v1715 : FVec F S8x2048 .f32 := k0_pay128 v1685 (ld8 x4 376 inb_S512x2048_S8x2048_376_0) (ld8 x4 384 inb_S512x2048_S8x2048_384_0)
  let v1726 : FVec F S8x2048 .f32 := k0_pay130 (ld8 x4 392 inb_S512x2048_S8x2048_392_0)
  let v1728 : FVec F S8x2048 .f32 := k0_pay131 (ld8 x4 392 inb_S512x2048_S8x2048_392_0)
  let v1760 : FVec F S8x2048 .f32 := k0_pay132 v1715 v1726 v1728 (ld8 x4 400 inb_S512x2048_S8x2048_400_0) (ld8 x4 408 inb_S512x2048_S8x2048_408_0)
  let v1769 : FVec F S8x2048 .f32 := k0_pay134 (ld8 x4 416 inb_S512x2048_S8x2048_416_0)
  let v1771 : FVec F S8x2048 .f32 := k0_pay135 (ld8 x4 416 inb_S512x2048_S8x2048_416_0)
  let v1805 : FVec F S8x2048 .f32 := k0_pay136 v1760 v1769 v1771 (ld8 x4 424 inb_S512x2048_S8x2048_424_0) (ld8 x4 432 inb_S512x2048_S8x2048_432_0)
  let v1807 : FVec F S8x2048 .f32 := k0_pay137 (ld8 x4 440 inb_S512x2048_S8x2048_440_0)
  let v1814 : FVec F S8x2048 .f32 := k0_pay138 (ld8 x4 440 inb_S512x2048_S8x2048_440_0)
  let v1850 : FVec F S8x2048 .f32 := k0_pay139 v1805 v1807 v1814 (ld8 x4 448 inb_S512x2048_S8x2048_448_0) (ld8 x4 456 inb_S512x2048_S8x2048_456_0)
  let v1852 : FVec F S8x2048 .f32 := k0_pay140 (ld8 x4 464 inb_S512x2048_S8x2048_464_0)
  let v1855 : FVec F S8x2048 .f32 := k0_pay141 (ld8 x4 464 inb_S512x2048_S8x2048_464_0)
  let v1856 : FVec F S8x2048 .f32 := k0_pay142
  let v1895 : FVec F S8x2048 .f32 := k0_pay143 v1850 v1852 v1855 v1856 (ld8 x4 472 inb_S512x2048_S8x2048_472_0) (ld8 x4 480 inb_S512x2048_S8x2048_480_0)
  let v1897 : FVec F S8x2048 .f32 := k0_pay144 (ld8 x4 488 inb_S512x2048_S8x2048_488_0)
  let v1898 : FVec F S8x2048 .f32 := k0_pay145 (ld8 x4 488 inb_S512x2048_S8x2048_488_0)
  let v1899 : FVec F S8x2048 .f32 := k0_pay146
  let v1940 : FVec F S8x2048 .f32 := k0_pay147 v1895 v1897 v1898 v1899 (ld8 x4 496 inb_S512x2048_S8x2048_496_0) (ld8 x4 504 inb_S512x2048_S8x2048_504_0)
  k0_pay1 v1940

/-- The output block: the two half blocks under the gate. -/
def outC (g : F .f32) (x3 x4 : Vec F S512x2048 .f32) : Vec F S1024x2048 .f32 := fun y =>
  if h : 512 ≤ (y (0 : Fin 2)).val ∧ (y (0 : Fin 2)).val < 512 + 512 then
    k0_pay6 g x4 (Rect.unitLocal (s := S1024x2048) (off := ![512, 0]) (size := S512x2048.size) y (Rect.unit_rows_mem y rfl rfl h))
  else if h : 0 ≤ (y (0 : Fin 2)).val ∧ (y (0 : Fin 2)).val < 0 + 512 then
    k0_pay5 g x3 (Rect.unitLocal (s := S1024x2048) (off := ![0, 0]) (size := S512x2048.size) y (Rect.unit_rows_mem y rfl rfl h))
  else k0_pay5 g x3 (fun a => ⟨0, by fin_cases a <;> decide⟩)

/-- The best value after one block of the buffer. -/
def bestS (mn : Vec F S1x2048 .f32) (x5 : Vec F S512x2048 .f32) (s : F .f32) : F .f32 :=
  if Scalar.cmpf .ogt (k0_pay151 mn x5) s = 1#1 then k0_pay151 mn x5 else s

/-- The place of the best value after one block of the buffer. -/
def bestI (arg0 : BitVec 32) (mn : Vec F S1x2048 .f32) (x5 : Vec F S512x2048 .f32) (s : F .f32) (n : BitVec 32) : BitVec 32 :=
  if Scalar.cmpf .ogt (k0_pay151 mn x5) s = 1#1 then extractAt ![0, 0, 0] (k0_pay152 arg0 mn x5) inpos_S1x1x1_p0_0_0 else n

/-- The start of the search. -/
def low : F .f32 := FloatOps.ofBits .f32 0xC0000000#32

/-- A widened bit is nonzero when it is set. -/
theorem bit_ne (b : BitVec 1) : (Scalar.cmpi .ne (Scalar.extui b : BitVec 32) 0#32 = 1#1) = (b = 1#1) := by
  revert b; decide

/-- Any cell of a one-cell buffer holds its word. -/
theorem sm_eq {α : Type} (x : S1x1.Idx → α) (y : S1x1.Idx) : x y = sm x :=
  congrArg x (funext fun a => Fin.ext (by
    have h1 := (y a).isLt
    have h2 := (Shape.Idx.first (s := S1x1) (by decide) a).isLt
    fin_cases a <;> (simp [S1x1] at h1 h2 ⊢; omega)))

end Cert.KernelIdeal.Hand

end
-- ==== Proof.Ideal.Data.lean ====
module

public import proofs.«01_k».proof.Proof.Ideal.Base
public import proofs.«01_k».proof.Proof.Ideal.Step
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The grid point of a number. -/
def pt (n : ℕ) : Fin cfg0.N := ⟨n % 48, lt_of_lt_of_eq (Nat.mod_lt _ (by decide)) (show 48 = cfg0.N from N_0.symm)⟩

theorem pt_val (t : Fin cfg0.N) : pt t.val = t :=
  Fin.ext (Nat.mod_eq_of_lt (lt_of_lt_of_eq t.isLt (show cfg0.N = 48 from N_0)))

/-- The word of a point's coordinate. -/
def w0 (t : Fin cfg0.N) : BitVec 32 := BitVec.ofNat 32 ((grid0.coords t) 0).val

/-- The accumulator after `n` points. -/
def accN (c : Dev nD) : ℕ → Vec F S8x2048 .f32
  | 0 => fun _ => FloatOps.ofBits .f32 0x00000000#32
  | n + 1 => accStep (w0 (pt n)) (accN c n) (iblk m c 2 (pt n)) (iblk m c 3 (pt n))

/-- The normalised mean. -/
def mnV (c : Dev nD) : Vec F S1x2048 .f32 := k0_pay2 (accN m c 16)

/-- The best value after `j` blocks. -/
def sN (c : Dev nD) : ℕ → F .f32
  | 0 => low
  | j + 1 => bestS (mnV m c) (iblk m c 4 (pt (16 + j))) (sN c j)

/-- The place of the best value after `j` blocks. -/
def iN (c : Dev nD) : ℕ → BitVec 32
  | 0 => 0#32
  | j + 1 => bestI (w0 (pt (16 + j))) (mnV m c) (iblk m c 4 (pt (16 + j))) (sN m c j) (iN c j)

/-- The gate. -/
def gateV (c : Dev nD) : F .f32 := k0_pay155 (iN m c 16) (iblk m c 6 (pt 31)) (sm (iblk m c 0 (pt 31)))

/-- The new block of the buffer at a point. -/
def nbufV (c : Dev nD) (t : Fin cfg0.N) : Vec F S512x2048 .f32 :=
  k0_pay149 (w0 t) (mnV m c) (iblk m c 4 t) (sm (iblk m c 1 t))

/-- The new depletion levels. -/
def ndeplV (c : Dev nD) : Vec F S8x1024 .f32 :=
  k0_pay3 (k0_pay156 (sN m c 16) (iN m c 16) (iblk m c 6 (pt 31))) (k0_pay157 (sm (iblk m c 1 (pt 31)))) (Scalar.ofBits .f32 0x3F800000#32)

/-- The new mask. -/
def nmaskV (c : Dev nD) : Vec F S8x1024 .i8 := k0_pay4 k0_pay154 (sm (iblk m c 1 (pt 31))) (iblk m c 5 (pt 31))

/-- What is known of the scratch before point `n`. -/
def Inv (c : Dev nD) (n : ℕ) (e0 : Vec F S8x2048 .f32) (e1 : Vec F S1x2048 .f32) (e2 : Vec F S1x1 .f32) (e3 : Vec F S1x1 .f32) (e4 : Vec F S1x1 .i32) : Prop :=
  (1 ≤ n → n ≤ 16 → e0 = accN m c n)
    ∧ (17 ≤ n → n ≤ 32 → e1 = mnV m c ∧ e3 = (fun _ => sN m c (n - 16)) ∧ e4 = fun _ => iN m c (n - 16))
    ∧ (32 ≤ n → e2 = fun _ => gateV m c)

/-- The first step does not read the accumulator. -/
theorem accStep_zero (t : Fin cfg0.N) (ht : t.val = 0) (a b : Vec F S8x2048 .f32) (x3 x4 : Vec F S512x2048 .f32) :
    accStep (w0 t) a x3 x4 = accStep (w0 t) b x3 x4 := by
  have : w0 t = 0#32 := by
    have : t = ⟨0, by rw [show cfg0.N = 48 from N_0]; decide⟩ := Fin.ext ht
    rw [this]; rfl
  rw [this]; rfl

theorem inv_A (c : Dev nD) (t : Fin cfg0.N) (ht : t.val < 16) {e0 e1 e2 e3 e4} (h : Inv m c t.val e0 e1 e2 e3 e4) :
    Inv m c (t.val + 1) (accStep (w0 t) e0 (iblk m c 2 t) (iblk m c 3 t)) e1 e2 e3 e4 := by
  refine ⟨fun _ _ => ?_, fun h1 _ => by omega, fun h1 => by omega⟩
  show _ = accStep (w0 (pt t.val)) (accN m c t.val) (iblk m c 2 (pt t.val)) (iblk m c 3 (pt t.val))
  rw [pt_val]
  by_cases hz : t.val = 0
  · exact accStep_zero t hz _ _ _ _
  · rw [h.1 (by omega) (by omega)]

theorem inv_N (c : Dev nD) (t : Fin cfg0.N) (ht : t.val = 16) {e0 e1 e2 e3 e4} (h : Inv m c t.val e0 e1 e2 e3 e4) :
    k0_pay2 e0 = mnV m c ∧
    Inv m c (t.val + 1) e0 (k0_pay2 e0) e2 (fun _ => bestS (k0_pay2 e0) (iblk m c 4 t) low)
      (fun _ => bestI (w0 t) (k0_pay2 e0) (iblk m c 4 t) low 0#32) := by
  have h0 := h.1 (by omega) (by omega)
  have hp : pt (16 + 0) = t := by rw [← pt_val t, ht]
  have hm : k0_pay2 e0 = mnV m c := by rw [h0, ht]; rfl
  refine ⟨hm, fun _ _ => by omega, fun _ _ => ⟨hm, ?_, ?_⟩, fun h1 => by omega⟩
  · funext _; rw [hm, ht]
    show _ = bestS (mnV m c) (iblk m c 4 (pt (16 + 0))) low
    rw [hp]
  · funext _; rw [hm, ht]
    show _ = bestI (w0 (pt (16 + 0))) (mnV m c) (iblk m c 4 (pt (16 + 0))) low 0#32
    rw [hp]

theorem inv_B (c : Dev nD) (t : Fin cfg0.N) (h1 : 16 < t.val) (h2 : t.val < 32) {e0 e1 e2 e3 e4} (h : Inv m c t.val e0 e1 e2 e3 e4) :
    e1 = mnV m c ∧ bestS e1 (iblk m c 4 t) (sm e3) = sN m c (t.val + 1 - 16)
      ∧ bestI (w0 t) e1 (iblk m c 4 t) (sm e3) (sm e4) = iN m c (t.val + 1 - 16) := by
  obtain ⟨hm, hs, hi⟩ := h.2.1 (by omega) (by omega)
  have hp : pt (16 + (t.val - 16)) = t := by rw [show 16 + (t.val - 16) = t.val by omega, pt_val]
  refine ⟨hm, ?_, ?_⟩
  · rw [show t.val + 1 - 16 = (t.val - 16) + 1 by omega, hm, hs]
    show _ = bestS (mnV m c) (iblk m c 4 (pt (16 + (t.val - 16)))) (sN m c (t.val - 16))
    rw [hp]; rfl
  · rw [show t.val + 1 - 16 = (t.val - 16) + 1 by omega, hm, hs, hi]
    show _ = bestI (w0 (pt (16 + (t.val - 16)))) (mnV m c) (iblk m c 4 (pt (16 + (t.val - 16)))) (sN m c (t.val - 16)) (iN m c (t.val - 16))
    rw [hp]; rfl

theorem inv_B' (c : Dev nD) (t : Fin cfg0.N) (h1 : 16 < t.val) (h2 : t.val < 31) {e0 e1 e2 e3 e4} (h : Inv m c t.val e0 e1 e2 e3 e4) :
    Inv m c (t.val + 1) e0 e1 e2 (fun _ => bestS e1 (iblk m c 4 t) (sm e3)) (fun _ => bestI (w0 t) e1 (iblk m c 4 t) (sm e3) (sm e4)) := by
  obtain ⟨hm, hs, hi⟩ := inv_B m c t h1 (by omega) h
  exact ⟨fun _ _ => by omega, fun _ _ => ⟨hm, by rw [hs], by rw [hi]⟩, fun _ => by omega⟩

theorem inv_G (c : Dev nD) (t : Fin cfg0.N) (ht : t.val = 31) {e0 e1 e2 e3 e4} (h : Inv m c t.val e0 e1 e2 e3 e4) :
    Inv m c (t.val + 1) e0 e1 (fun _ => k0_pay155 (bestI (w0 t) e1 (iblk m c 4 t) (sm e3) (sm e4)) (iblk m c 6 t) (sm (iblk m c 0 t)))
      (fun _ => bestS e1 (iblk m c 4 t) (sm e3)) (fun _ => bestI (w0 t) e1 (iblk m c 4 t) (sm e3) (sm e4)) := by
  obtain ⟨hm, hs, hi⟩ := inv_B m c t (by omega) (by omega) h
  refine ⟨fun _ _ => by omega, fun _ _ => ⟨hm, by rw [hs], by rw [hi]⟩, fun _ => ?_⟩
  funext _; rw [hi, ht]
  have hp : pt 31 = t := by rw [← pt_val t, ht]
  unfold gateV; rw [hp]

theorem inv_C (c : Dev nD) (t : Fin cfg0.N) (ht : 32 ≤ t.val) {e0 e1 e2 e3 e4} (h : Inv m c t.val e0 e1 e2 e3 e4) :
    sm e2 = gateV m c ∧ Inv m c (t.val + 1) e0 e1 e2 e3 e4 := by
  have h2 := h.2.2 ht
  exact ⟨by rw [h2]; rfl, fun _ _ => by omega, fun _ _ => by omega, fun _ => h2⟩

/-- The invariant before point `n`: the scratch at contents of which `Inv` holds, and the generator register. -/
def PhiS (c : Dev nD) (n : ℕ) : sProp 𝕄 :=
  iprop((∃ e0 e1 e2 e3 e4, ⌜Inv m c n e0 e1 e2 e3 e4⌝ ∗ owns (c : Thread nD τ) scM0_0 fullShare e0 ∗ owns (c : Thread nD τ) scM0_1 fullShare e1 ∗ owns (c : Thread nD τ) scM0_2 fullShare e2 ∗ owns (c : Thread nD τ) scM0_3 fullShare e3 ∗ owns (c : Thread nD τ) scM0_4 fullShare e4) ∗ (∃ r, prngReg c r))

/-- The proof data: what the body leaves in each window's buffer, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outC (gateV m c) (iblk m c 2 t) (iblk m c 3 t)
    | ⟨8, _⟩ => nbufV m c (pt (min t.val 31))
    | ⟨9, _⟩ => ndeplV m c
    | ⟨10, _⟩ => nmaskV m c
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outC (gateV m c) (iblk m c 2 t) (iblk m c 3 t) := by dsimp only [dats]
theorem after0_8 (c : Dev nD) (t : Fin cfg0.N) : (dats m 0 c).after 8 t = nbufV m c (pt (min t.val 31)) := by dsimp only [dats]
theorem after0_9 (c : Dev nD) (t : Fin cfg0.N) : (dats m 0 c).after 9 t = ndeplV m c := by dsimp only [dats]
theorem after0_10 (c : Dev nD) (t : Fin cfg0.N) : (dats m 0 c).after 10 t = nmaskV m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem flush7 : ∀ t : Fin cfg0.N, t.val < 32 → (cfg0.win 7).flush t = false :=
  (by decide : ∀ t : Fin grid0.N, t.val < 32 → win0_7.flush t = false)
theorem flush8 : ∀ t : Fin cfg0.N, (t.val < 16 ∨ 31 ≤ t.val) → t.val < 47 → (cfg0.win 8).flush t = false :=
  (by decide : ∀ t : Fin grid0.N, (t.val < 16 ∨ 31 ≤ t.val) → t.val < 47 → win0_8.flush t = false)
theorem flush8_last : ∀ t : Fin cfg0.N, t.val = 47 → (cfg0.win 8).flush t = true :=
  (by decide : ∀ t : Fin grid0.N, t.val = 47 → win0_8.flush t = true)
theorem flush9 (t : Fin cfg0.N) (h : t.val < 47) : (cfg0.win 9).flush t = false := by
  cases hf : (cfg0.win 9).flush t
  · rfl
  · have := (flush0_9 t).mp hf; omega
theorem flush10 (t : Fin cfg0.N) (h : t.val < 47) : (cfg0.win 10).flush t = false := by
  cases hf : (cfg0.win 10).flush t
  · rfl
  · have := (flush0_10 t).mp hf; omega

theorem bne_of {b : BitVec 1} (h : ¬ b = 1#1) : (!(b == 1#1)) = true := by revert h; revert b; decide
theorem bne_of' {b : BitVec 1} (h : b = 1#1) : (!(b == 1#1)) = false := by revert h; revert b; decide

theorem idle7 (t : Fin cfg0.N) (h : ¬ condC (grid0.coords t)) : cfg0.idle 7 (cfg0.grid.coords t) = true := bne_of h
theorem live7 (t : Fin cfg0.N) (h : condC (grid0.coords t)) : cfg0.idle 7 (cfg0.grid.coords t) = false := bne_of' h
theorem idle8 (t : Fin cfg0.N) (h : ¬ condB (grid0.coords t)) : cfg0.idle 8 (cfg0.grid.coords t) = true := bne_of h
theorem live8 (t : Fin cfg0.N) (h : condB (grid0.coords t)) : cfg0.idle 8 (cfg0.grid.coords t) = false := bne_of' h
theorem idle9 (t : Fin cfg0.N) (h : ¬ condG (grid0.coords t)) : cfg0.idle 9 (cfg0.grid.coords t) = true := bne_of h
theorem live9 (t : Fin cfg0.N) (h : condG (grid0.coords t)) : cfg0.idle 9 (cfg0.grid.coords t) = false := bne_of' h
theorem idle10 (t : Fin cfg0.N) (h : ¬ condG (grid0.coords t)) : cfg0.idle 10 (cfg0.grid.coords t) = true := bne_of h
theorem live10 (t : Fin cfg0.N) (h : condG (grid0.coords t)) : cfg0.idle 10 (cfg0.grid.coords t) = false := bne_of' h

/-- What the last search point left in a window's buffer is there at the last point. -/
theorem carry (c : Dev nD) (w : Fin cfg0.W) (hw : (cfg0.win w).isOut = true) (hclip : ∀ (i : cfg0.grid.Coords) a, (cfg0.win w).clip i a = none)
    (hf : ∀ j : Fin cfg0.N, 31 ≤ j.val → j.val < 47 → (cfg0.win w).flush j = false)
    (hi : ∀ j : Fin cfg0.N, 32 ≤ j.val → cfg0.idle w (cfg0.grid.coords j) = true)
    (hl : ∀ j : Fin cfg0.N, j.val = 31 → cfg0.idle w (cfg0.grid.coords j) = false)
    (t : Fin cfg0.N) (ht : t.val = 47) (d) :
    (dats m 0 c).before w t d = (dats m 0 c).after w (pt 31) := by
  have hN : cfg0.N = 48 := N_0
  rw [(dats m 0 c).before_idle_run w (fun t => (cfg0.win w).fetch_out hw t) d 15 t (by omega)
    (fun j h1 h2 => ⟨hi j (by omega), hf j (by omega) (by omega)⟩)]
  have e1 : (⟨t.val - 15, by omega⟩ : Fin cfg0.N) = ⟨32, by omega⟩ := Fin.ext (by simp only; omega)
  rw [e1, (dats m 0 c).before_of_pos w ⟨32, by omega⟩ (by simp) ((cfg0.win w).fetch_out hw _) d]
  have e2 : (⟨(⟨32, by omega⟩ : Fin cfg0.N).val - 1, Nat.lt_of_le_of_lt (Nat.sub_le _ _) (by omega)⟩ : Fin cfg0.N) = pt 31 := Fin.ext (by simp [pt])
  rw [e2, hf (pt 31) (by simp [pt]) (by simp [pt]), if_neg Bool.false_ne_true]
  unfold Dat.left
  rw [hl (pt 31) (by simp [pt])]
  show (dats m 0 c).kept w (pt 31) d = _
  unfold Dat.kept
  rw [Pipeline.fill_of_clip_none w _ (hclip _) d ((dats m 0 c).after w _), Pipeline.Window.fill_cut]

theorem leave_idle (c : Dev nD) (w : Fin cfg0.W) (t : Fin cfg0.N) (hi : cfg0.idle w (cfg0.grid.coords t) = true) (hf : (cfg0.win w).flush t = false) (d) :
    (owns (c : Thread nD τ) ((cfg0.win w).stage (cfg0.slots t w)) fullShare ((dats m 0 c).before w t d) : sProp 𝕄) ⊢ (dats m 0 c).leavesExact w t := by
  rw [(dats m 0 c).leavesExact_idle w t hi hf]
  iintro H; iexists d; iexact H

theorem keep8 (c : Dev nD) (t : Fin cfg0.N) (h : t.val < 16 ∨ 32 ≤ t.val) (d) :
    (owns (c : Thread nD τ) (ms0_8 t) fullShare ((dats m 0 c).before 8 t d) : sProp 𝕄) ⊢ (dats m 0 c).leavesExact 8 t := by
  have hN : t.val < 48 := lt_of_lt_of_eq t.isLt (show cfg0.N = 48 from N_0)
  have hi : cfg0.idle 8 (cfg0.grid.coords t) = true := idle8 t (fun h1 => by have := (hcondB t).mp h1; omega)
  by_cases h47 : t.val = 47
  · have e := carry m c 8 rfl (fun _ _ => rfl) (fun j h1 h2 => flush8 j (.inr h1) h2)
      (fun j h1 => idle8 j (fun h2 => by have := (hcondB j).mp h2; omega)) (fun j h1 => live8 j ((hcondB j).mpr (by omega))) t h47 d
    rw [e, show (dats m 0 c).after 8 (pt 31) = (dats m 0 c).after 8 t from by rw [after0_8, after0_8]; rw [h47]; rfl]
    unfold Dat.leavesExact
    cases hf : (cfg0.win 8).flush t
    · exact absurd (hf.symm.trans (flush8_last t h47)) Bool.false_ne_true
    · rw [hi]
  · exact leave_idle m c 8 t hi (flush8 t (by omega) (by omega)) d

theorem keep9 (c : Dev nD) (t : Fin cfg0.N) (h : t.val ≠ 31) (d) :
    (owns (c : Thread nD τ) (ms0_9 t) fullShare ((dats m 0 c).before 9 t d) : sProp 𝕄) ⊢ (dats m 0 c).leavesExact 9 t := by
  have hN : t.val < 48 := lt_of_lt_of_eq t.isLt (show cfg0.N = 48 from N_0)
  have hi : cfg0.idle 9 (cfg0.grid.coords t) = true := idle9 t (fun h1 => by have := (hcondG t).mp h1; omega)
  by_cases h47 : t.val = 47
  · have e := carry m c 9 rfl (fun _ _ => rfl) (fun j h1 h2 => flush9 j h2)
      (fun j h1 => idle9 j (fun h2 => by have := (hcondG j).mp h2; omega)) (fun j h1 => live9 j ((hcondG j).mpr (by omega))) t h47 d
    rw [e, show (dats m 0 c).after 9 (pt 31) = (dats m 0 c).after 9 t from by rw [after0_9, after0_9]]
    unfold Dat.leavesExact
    cases hf : (cfg0.win 9).flush t
    · exact absurd (hf.symm.trans ((flush0_9 t).mpr (by omega))) Bool.false_ne_true
    · rw [hi]
  · exact leave_idle m c 9 t hi (flush9 t (by omega)) d

theorem keep10 (c : Dev nD) (t : Fin cfg0.N) (h : t.val ≠ 31) (d) :
    (owns (c : Thread nD τ) (ms0_10 t) fullShare ((dats m 0 c).before 10 t d) : sProp 𝕄) ⊢ (dats m 0 c).leavesExact 10 t := by
  have hN : t.val < 48 := lt_of_lt_of_eq t.isLt (show cfg0.N = 48 from N_0)
  have hi : cfg0.idle 10 (cfg0.grid.coords t) = true := idle10 t (fun h1 => by have := (hcondG t).mp h1; omega)
  by_cases h47 : t.val = 47
  · have e := carry m c 10 rfl (fun _ _ => rfl) (fun j h1 h2 => flush10 j h2)
      (fun j h1 => idle10 j (fun h2 => by have := (hcondG j).mp h2; omega)) (fun j h1 => live10 j ((hcondG j).mpr (by omega))) t h47 d
    rw [e, show (dats m 0 c).after 10 (pt 31) = (dats m 0 c).after 10 t from by rw [after0_10, after0_10]]
    unfold Dat.leavesExact
    cases hf : (cfg0.win 10).flush t
    · exact absurd (hf.symm.trans ((flush0_10 t).mpr (by omega))) Bool.false_ne_true
    · rw [hi]
  · exact leave_idle m c 10 t hi (flush10 t (by omega)) d

end Cert.KernelIdeal.Hand

end
-- ==== Proof.Ideal.RunA.lean ====
module

public import proofs.«01_k».proof.Proof.Ideal.Base
public import proofs.«01_k».proof.Proof.Ideal.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option sl_exec.resultNames true in
set_option maxHeartbeats 4000000 in
/-- The body at a point that accumulates. -/
theorem runA (c : Dev nD) (i : grid0.Coords) (arg1 : Memref sig .tc .smem S1x1 .f32) (harg1 : arg1.IsWhole) (arg2 : Memref sig .tc .smem S1x1 .i32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S8x1024 .i8) (harg6 : arg6.IsWhole) (arg7 : Memref sig .tc .vmem S8x1024 .f32) (harg7 : arg7.IsWhole) (arg8 : Memref sig .tc .vmem S1024x2048 .f32) (harg8 : arg8.IsWhole) (arg9 : Memref sig .tc .vmem S512x2048 .f32) (harg9 : arg9.IsWhole) (arg10 : Memref sig .tc .vmem S8x1024 .f32) (harg10 : arg10.IsWhole) (arg11 : Memref sig .tc .vmem S8x1024 .i8) (harg11 : arg11.IsWhole) (arg12 : Memref sig .tc .vmem S8x2048 .f32) (harg12 : arg12.IsWhole) (arg13 : Memref sig .tc .vmem S1x2048 .f32) (harg13 : arg13.IsWhole) (arg14 : Memref sig .tc .smem S1x1 .f32) (harg14 : arg14.IsWhole) (arg15 : Memref sig .tc .smem S1x1 .f32) (harg15 : arg15.IsWhole) (arg16 : Memref sig .tc .smem S1x1 .i32) (harg16 : arg16.IsWhole) (hA : condA i) (hN : ¬condN i) (hB : ¬condB i) (hG : ¬condG i) (hC : ¬condC i)
    (x1 : Vec F S1x1 .f32) (x2 : Vec F S1x1 .i32) (x3 : Vec F S512x2048 .f32) (x4 : Vec F S512x2048 .f32) (x5 : Vec F S512x2048 .f32) (x6 : Vec F S8x1024 .i8) (x7 : Vec F S8x1024 .f32) (x8 : Vec F S1024x2048 .f32) (x9 : Vec F S512x2048 .f32) (x10 : Vec F S8x1024 .f32) (x11 : Vec F S8x1024 .i8) (x12 : Vec F S8x2048 .f32) (x13 : Vec F S1x2048 .f32) (x14 : Vec F S1x1 .f32) (x15 : Vec F S1x1 .f32) (x16 : Vec F S1x1 .i32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (accStep (BitVec.ofNat 32 (i 0).val) x12 x3 x4) ∗ owns (c : Thread nD τ) arg13 fullShare x13 ∗ owns (c : Thread nD τ) arg14 fullShare x14 ∗ owns (c : Thread nD τ) arg15 fullShare x15 ∗ owns (c : Thread nD τ) arg16 fullShare x16) -∗ K ⟨⟩))
      ⊢ wp frame (wpE (defs₀ (F := F)) Variants.none c none) E (cc0_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1; subst hf2; subst hf3; subst hf4; subst hf5; subst hf6; subst hf7; subst hf8; subst hf9; subst hf10; subst hf11; subst hf12; subst hf13; subst hf14; subst hf15; subst hf16
  sl_exec (disch := first | sl_exact hA | sl_exact hN | sl_exact hB | sl_exact hG | sl_exact hC)
  sl_step
  iapply Hk
  isplitl [H1]
  · iexists _; isplitr; rotate_left
    · iexact H1
    · ipureintro; rfl
  isplitl [H2]
  · iexists _; isplitr; rotate_left
    · iexact H2
    · ipureintro; rfl
  isplitl [H3]
  · iexists _; isplitr; rotate_left
    · iexact H3
    · ipureintro; rfl
  isplitl [H4]
  · iexists _; isplitr; rotate_left
    · iexact H4
    · ipureintro; rfl
  isplitl [H5]
  · iexists _; isplitr; rotate_left
    · iexact H5
    · ipureintro; rfl
  isplitl [H6]
  · iexists _; isplitr; rotate_left
    · iexact H6
    · ipureintro; rfl
  isplitl [H7]
  · iexists _; isplitr; rotate_left
    · iexact H7
    · ipureintro; rfl
  isplitl [H8]
  · iexists _; isplitr; rotate_left
    · iexact H8
    · ipureintro; rfl
  isplitl [H9]
  · iexists _; isplitr; rotate_left
    · iexact H9
    · ipureintro; rfl
  isplitl [H10]
  · iexists _; isplitr; rotate_left
    · iexact H10
    · ipureintro; rfl
  isplitl [H11]
  · iexists _; isplitr; rotate_left
    · iexact H11
    · ipureintro; rfl
  isplitl [H12]
  · iexists _; isplitr; rotate_left
    · iexact H12
    · ipureintro; (rw [View.read_writes_full]; rfl)
  isplitl [H13]
  · iexists _; isplitr; rotate_left
    · iexact H13
    · ipureintro; rfl
  isplitl [H14]
  · iexists _; isplitr; rotate_left
    · iexact H14
    · ipureintro; rfl
  isplitl [H15]
  · iexists _; isplitr; rotate_left
    · iexact H15
    · ipureintro; rfl
  iexists _; isplitr; rotate_left
  · iexact H16
  · ipureintro; rfl

end Cert.KernelIdeal.Hand

end
-- ==== Proof.Ideal.RunB0.lean ====
module

public import proofs.«01_k».proof.Proof.Ideal.Base
public import proofs.«01_k».proof.Proof.Ideal.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option sl_exec.resultNames true in
set_option maxHeartbeats 4000000 in
/-- The body at a point that searches a block of the buffer, with the normalisation before it. -/
theorem runB0 (c : Dev nD) (i : grid0.Coords) (arg1 : Memref sig .tc .smem S1x1 .f32) (harg1 : arg1.IsWhole) (arg2 : Memref sig .tc .smem S1x1 .i32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S8x1024 .i8) (harg6 : arg6.IsWhole) (arg7 : Memref sig .tc .vmem S8x1024 .f32) (harg7 : arg7.IsWhole) (arg8 : Memref sig .tc .vmem S1024x2048 .f32) (harg8 : arg8.IsWhole) (arg9 : Memref sig .tc .vmem S512x2048 .f32) (harg9 : arg9.IsWhole) (arg10 : Memref sig .tc .vmem S8x1024 .f32) (harg10 : arg10.IsWhole) (arg11 : Memref sig .tc .vmem S8x1024 .i8) (harg11 : arg11.IsWhole) (arg12 : Memref sig .tc .vmem S8x2048 .f32) (harg12 : arg12.IsWhole) (arg13 : Memref sig .tc .vmem S1x2048 .f32) (harg13 : arg13.IsWhole) (arg14 : Memref sig .tc .smem S1x1 .f32) (harg14 : arg14.IsWhole) (arg15 : Memref sig .tc .smem S1x1 .f32) (harg15 : arg15.IsWhole) (arg16 : Memref sig .tc .smem S1x1 .i32) (harg16 : arg16.IsWhole) (hA : ¬condA i) (hN : condN i) (hB : condB i) (hG : ¬condG i) (hC : ¬condC i)
    (x1 : Vec F S1x1 .f32) (x2 : Vec F S1x1 .i32) (x3 : Vec F S512x2048 .f32) (x4 : Vec F S512x2048 .f32) (x5 : Vec F S512x2048 .f32) (x6 : Vec F S8x1024 .i8) (x7 : Vec F S8x1024 .f32) (x8 : Vec F S1024x2048 .f32) (x9 : Vec F S512x2048 .f32) (x10 : Vec F S8x1024 .f32) (x11 : Vec F S8x1024 .i8) (x12 : Vec F S8x2048 .f32) (x13 : Vec F S1x2048 .f32) (x14 : Vec F S1x1 .f32) (x15 : Vec F S1x1 .f32) (x16 : Vec F S1x1 .i32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay149 (BitVec.ofNat 32 (i 0).val) (k0_pay2 x12) x5 (sm x2)) ∗ owns (c : Thread nD τ) arg10 fullShare x10 ∗ owns (c : Thread nD τ) arg11 fullShare x11 ∗ owns (c : Thread nD τ) arg12 fullShare x12 ∗ owns (c : Thread nD τ) arg13 fullShare (k0_pay2 x12) ∗ owns (c : Thread nD τ) arg14 fullShare x14 ∗ owns (c : Thread nD τ) arg15 fullShare (fun _ => bestS (k0_pay2 x12) x5 low) ∗ owns (c : Thread nD τ) arg16 fullShare (fun _ => bestI (BitVec.ofNat 32 (i 0).val) (k0_pay2 x12) x5 low 0#32)) -∗ K ⟨⟩))
      ⊢ wp frame (wpE (defs₀ (F := F)) Variants.none c none) E (cc0_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_body_eq_skeleton]; unfold cc0_body_skel
  simp only [k0_part46_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1; subst hf2; subst hf3; subst hf4; subst hf5; subst hf6; subst hf7; subst hf8; subst hf9; subst hf10; subst hf11; subst hf12; subst hf13; subst hf14; subst hf15; subst hf16
  sl_exec (disch := first | sl_exact hA | sl_exact hN | sl_exact hB | sl_exact hG | sl_exact hC)
  sl_step
  iapply Hk
  isplitl [H1]
  · iexists _; isplitr; rotate_left
    · iexact H1
    · ipureintro; rfl
  isplitl [H2]
  · iexists _; isplitr; rotate_left
    · iexact H2
    · ipureintro; rfl
  isplitl [H3]
  · iexists _; isplitr; rotate_left
    · iexact H3
    · ipureintro; rfl
  isplitl [H4]
  · iexists _; isplitr; rotate_left
    · iexact H4
    · ipureintro; rfl
  isplitl [H5]
  · iexists _; isplitr; rotate_left
    · iexact H5
    · ipureintro; rfl
  isplitl [H6]
  · iexists _; isplitr; rotate_left
    · iexact H6
    · ipureintro; rfl
  isplitl [H7]
  · iexists _; isplitr; rotate_left
    · iexact H7
    · ipureintro; rfl
  isplitl [H8]
  · iexists _; isplitr; rotate_left
    · iexact H8
    · ipureintro; rfl
  isplitl [H9]
  · iexists _; isplitr; rotate_left
    · iexact H9
    · ipureintro; exact (View.read_writes_full _ _ _ _ _).trans (congr (congr (congrArg (k0_pay149 _) (View.readCov_full arg13.view _ _ _ _ |>.trans (congrArg k0_pay2 (View.readAt_full arg12.view f12 _)))) (View.readAt_full arg5.view f5 _)) (sm_eq (View.read (Elt F) arg2.view f2) _))
  isplitl [H10]
  · iexists _; isplitr; rotate_left
    · iexact H10
    · ipureintro; rfl
  isplitl [H11]
  · iexists _; isplitr; rotate_left
    · iexact H11
    · ipureintro; rfl
  isplitl [H12]
  · iexists _; isplitr; rotate_left
    · iexact H12
    · ipureintro; rfl
  isplitl [H13]
  · iexists _; isplitr; rotate_left
    · iexact H13
    · ipureintro; exact (View.read_writes_full _ _ _ _ _).trans (congrArg k0_pay2 (View.readAt_full arg12.view f12 _))
  isplitl [H14]
  · iexists _; isplitr; rotate_left
    · iexact H14
    · ipureintro; rfl
  isplitl [H15]
  · iexists _; isplitr; rotate_left
    · iexact H15
    · ipureintro
      simp only [bit_ne]
      split <;> rename_i h5
      · have h6 : Scalar.cmpf .ogt (k0_pay151 (k0_pay2 (View.read (Elt F) arg12.view f12)) (View.read (Elt F) arg5.view f5)) low = 1#1 := (congrArg₂ (Scalar.cmpf .ogt) (congrArg₂ k0_pay151 (View.readCov_full arg13.view _ _ _ _ |>.trans (congrArg k0_pay2 (View.readAt_full arg12.view f12 _))) (View.readAt_full arg5.view f5 _)) rfl).symm.trans h5
        refine (View.read_writes_full _ _ _ _ _).trans (funext fun x => ?_)
        unfold bestS; rw [if_pos h6]
        exact (congrArg₂ k0_pay151 (View.readCov_full arg13.view _ _ _ _ |>.trans (congrArg k0_pay2 (View.readAt_full arg12.view f12 _))) (View.readAt_full arg5.view f5 _))
      · have h6 : ¬ Scalar.cmpf .ogt (k0_pay151 (k0_pay2 (View.read (Elt F) arg12.view f12)) (View.read (Elt F) arg5.view f5)) low = 1#1 := fun h => h5 ((congrArg₂ (Scalar.cmpf .ogt) (congrArg₂ k0_pay151 (View.readCov_full arg13.view _ _ _ _ |>.trans (congrArg k0_pay2 (View.readAt_full arg12.view f12 _))) (View.readAt_full arg5.view f5 _)) rfl).trans h)
        refine (View.read_writes_full _ _ _ _ _).trans (funext fun x => ?_)
        unfold bestS; rw [if_neg h6]
        all_goals exact rfl
  iexists _; isplitr; rotate_left
  · iexact H16
  · ipureintro
    simp only [bit_ne]
    split <;> rename_i h5
    · have h6 : Scalar.cmpf .ogt (k0_pay151 (k0_pay2 (View.read (Elt F) arg12.view f12)) (View.read (Elt F) arg5.view f5)) low = 1#1 := (congrArg₂ (Scalar.cmpf .ogt) (congrArg₂ k0_pay151 (View.readCov_full arg13.view _ _ _ _ |>.trans (congrArg k0_pay2 (View.readAt_full arg12.view f12 _))) (View.readAt_full arg5.view f5 _)) rfl).symm.trans h5
      refine (View.read_writes_full _ _ _ _ _).trans (funext fun x => ?_)
      unfold bestI; rw [if_pos h6]
      exact congrArg (fun q => extractAt ![0, 0, 0] q inpos_S1x1x1_p0_0_0) (congrArg₂ (k0_pay152 _) (View.readCov_full arg13.view _ _ _ _ |>.trans (congrArg k0_pay2 (View.readAt_full arg12.view f12 _))) (View.readAt_full arg5.view f5 _))
    · have h6 : ¬ Scalar.cmpf .ogt (k0_pay151 (k0_pay2 (View.read (Elt F) arg12.view f12)) (View.read (Elt F) arg5.view f5)) low = 1#1 := fun h => h5 ((congrArg₂ (Scalar.cmpf .ogt) (congrArg₂ k0_pay151 (View.readCov_full arg13.view _ _ _ _ |>.trans (congrArg k0_pay2 (View.readAt_full arg12.view f12 _))) (View.readAt_full arg5.view f5 _)) rfl).trans h)
      refine (View.read_writes_full _ _ _ _ _).trans (funext fun x => ?_)
      unfold bestI; rw [if_neg h6]
      all_goals exact rfl

end Cert.KernelIdeal.Hand

end
-- ==== Proof.Ideal.RunB.lean ====
module

public import proofs.«01_k».proof.Proof.Ideal.Base
public import proofs.«01_k».proof.Proof.Ideal.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option sl_exec.resultNames true in
set_option maxHeartbeats 4000000 in
/-- The body at a point that searches a block of the buffer. -/
theorem runB (c : Dev nD) (i : grid0.Coords) (arg1 : Memref sig .tc .smem S1x1 .f32) (harg1 : arg1.IsWhole) (arg2 : Memref sig .tc .smem S1x1 .i32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S8x1024 .i8) (harg6 : arg6.IsWhole) (arg7 : Memref sig .tc .vmem S8x1024 .f32) (harg7 : arg7.IsWhole) (arg8 : Memref sig .tc .vmem S1024x2048 .f32) (harg8 : arg8.IsWhole) (arg9 : Memref sig .tc .vmem S512x2048 .f32) (harg9 : arg9.IsWhole) (arg10 : Memref sig .tc .vmem S8x1024 .f32) (harg10 : arg10.IsWhole) (arg11 : Memref sig .tc .vmem S8x1024 .i8) (harg11 : arg11.IsWhole) (arg12 : Memref sig .tc .vmem S8x2048 .f32) (harg12 : arg12.IsWhole) (arg13 : Memref sig .tc .vmem S1x2048 .f32) (harg13 : arg13.IsWhole) (arg14 : Memref sig .tc .smem S1x1 .f32) (harg14 : arg14.IsWhole) (arg15 : Memref sig .tc .smem S1x1 .f32) (harg15 : arg15.IsWhole) (arg16 : Memref sig .tc .smem S1x1 .i32) (harg16 : arg16.IsWhole) (hA : ¬condA i) (hN : ¬condN i) (hB : condB i) (hG : ¬condG i) (hC : ¬condC i)
    (x1 : Vec F S1x1 .f32) (x2 : Vec F S1x1 .i32) (x3 : Vec F S512x2048 .f32) (x4 : Vec F S512x2048 .f32) (x5 : Vec F S512x2048 .f32) (x6 : Vec F S8x1024 .i8) (x7 : Vec F S8x1024 .f32) (x8 : Vec F S1024x2048 .f32) (x9 : Vec F S512x2048 .f32) (x10 : Vec F S8x1024 .f32) (x11 : Vec F S8x1024 .i8) (x12 : Vec F S8x2048 .f32) (x13 : Vec F S1x2048 .f32) (x14 : Vec F S1x1 .f32) (x15 : Vec F S1x1 .f32) (x16 : Vec F S1x1 .i32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay149 (BitVec.ofNat 32 (i 0).val) x13 x5 (sm x2)) ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (fun _ => bestS x13 x5 (sm x15)) ∗ owns (c : Thread nD τ) arg16 fullShare (fun _ => bestI (BitVec.ofNat 32 (i 0).val) x13 x5 (sm x15) (sm x16))) -∗ K ⟨⟩))
      ⊢ wp frame (wpE (defs₀ (F := F)) Variants.none c none) E (cc0_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_body_eq_skeleton]; unfold cc0_body_skel
  simp only [k0_part46_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1; subst hf2; subst hf3; subst hf4; subst hf5; subst hf6; subst hf7; subst hf8; subst hf9; subst hf10; subst hf11; subst hf12; subst hf13; subst hf14; subst hf15; subst hf16
  sl_exec (disch := first | sl_exact hA | sl_exact hN | sl_exact hB | sl_exact hG | sl_exact hC)
  sl_step
  iapply Hk
  isplitl [H1]
  · iexists _; isplitr; rotate_left
    · iexact H1
    · ipureintro; rfl
  isplitl [H2]
  · iexists _; isplitr; rotate_left
    · iexact H2
    · ipureintro; rfl
  isplitl [H3]
  · iexists _; isplitr; rotate_left
    · iexact H3
    · ipureintro; rfl
  isplitl [H4]
  · iexists _; isplitr; rotate_left
    · iexact H4
    · ipureintro; rfl
  isplitl [H5]
  · iexists _; isplitr; rotate_left
    · iexact H5
    · ipureintro; rfl
  isplitl [H6]
  · iexists _; isplitr; rotate_left
    · iexact H6
    · ipureintro; rfl
  isplitl [H7]
  · iexists _; isplitr; rotate_left
    · iexact H7
    · ipureintro; rfl
  isplitl [H8]
  · iexists _; isplitr; rotate_left
    · iexact H8
    · ipureintro; rfl
  isplitl [H9]
  · iexists _; isplitr; rotate_left
    · iexact H9
    · ipureintro; exact (View.read_writes_full _ _ _ _ _).trans (congr (congr (congrArg (k0_pay149 _) (View.readAt_full arg13.view f13 _)) (View.readAt_full arg5.view f5 _)) (sm_eq (View.read (Elt F) arg2.view f2) _))
  isplitl [H10]
  · iexists _; isplitr; rotate_left
    · iexact H10
    · ipureintro; rfl
  isplitl [H11]
  · iexists _; isplitr; rotate_left
    · iexact H11
    · ipureintro; rfl
  isplitl [H12]
  · iexists _; isplitr; rotate_left
    · iexact H12
    · ipureintro; rfl
  isplitl [H13]
  · iexists _; isplitr; rotate_left
    · iexact H13
    · ipureintro; rfl
  isplitl [H14]
  · iexists _; isplitr; rotate_left
    · iexact H14
    · ipureintro; rfl
  isplitl [H15]
  · iexists _; isplitr; rotate_left
    · iexact H15
    · ipureintro
      simp only [bit_ne]
      split <;> rename_i h5
      · have h6 : Scalar.cmpf .ogt (k0_pay151 (View.read (Elt F) arg13.view f13) (View.read (Elt F) arg5.view f5)) (sm (View.read (Elt F) arg15.view f15)) = 1#1 := (congrArg₂ (Scalar.cmpf .ogt) (congrArg₂ k0_pay151 (View.readAt_full arg13.view f13 _) (View.readAt_full arg5.view f5 _)) (sm_eq (View.read (Elt F) arg15.view f15) _)).symm.trans h5
        refine (View.read_writes_full _ _ _ _ _).trans (funext fun x => ?_)
        unfold bestS; rw [if_pos h6]
        exact (congrArg₂ k0_pay151 (View.readAt_full arg13.view f13 _) (View.readAt_full arg5.view f5 _))
      · have h6 : ¬ Scalar.cmpf .ogt (k0_pay151 (View.read (Elt F) arg13.view f13) (View.read (Elt F) arg5.view f5)) (sm (View.read (Elt F) arg15.view f15)) = 1#1 := fun h => h5 ((congrArg₂ (Scalar.cmpf .ogt) (congrArg₂ k0_pay151 (View.readAt_full arg13.view f13 _) (View.readAt_full arg5.view f5 _)) (sm_eq (View.read (Elt F) arg15.view f15) _)).trans h)
        refine funext fun x => ?_
        unfold bestS; rw [if_neg h6]
        all_goals exact (sm_eq (View.read (Elt F) arg15.view f15) _)
  iexists _; isplitr; rotate_left
  · iexact H16
  · ipureintro
    simp only [bit_ne]
    split <;> rename_i h5
    · have h6 : Scalar.cmpf .ogt (k0_pay151 (View.read (Elt F) arg13.view f13) (View.read (Elt F) arg5.view f5)) (sm (View.read (Elt F) arg15.view f15)) = 1#1 := (congrArg₂ (Scalar.cmpf .ogt) (congrArg₂ k0_pay151 (View.readAt_full arg13.view f13 _) (View.readAt_full arg5.view f5 _)) (sm_eq (View.read (Elt F) arg15.view f15) _)).symm.trans h5
      refine (View.read_writes_full _ _ _ _ _).trans (funext fun x => ?_)
      unfold bestI; rw [if_pos h6]
      exact congrArg (fun q => extractAt ![0, 0, 0] q inpos_S1x1x1_p0_0_0) (congrArg₂ (k0_pay152 _) (View.readAt_full arg13.view f13 _) (View.readAt_full arg5.view f5 _))
    · have h6 : ¬ Scalar.cmpf .ogt (k0_pay151 (View.read (Elt F) arg13.view f13) (View.read (Elt F) arg5.view f5)) (sm (View.read (Elt F) arg15.view f15)) = 1#1 := fun h => h5 ((congrArg₂ (Scalar.cmpf .ogt) (congrArg₂ k0_pay151 (View.readAt_full arg13.view f13 _) (View.readAt_full arg5.view f5 _)) (sm_eq (View.read (Elt F) arg15.view f15) _)).trans h)
      refine funext fun x => ?_
      unfold bestI; rw [if_neg h6]
      all_goals exact (sm_eq (View.read (Elt F) arg16.view f16) _)

end Cert.KernelIdeal.Hand

end
-- ==== Proof.Ideal.RunBG.lean ====
module

public import proofs.«01_k».proof.Proof.Ideal.Base
public import proofs.«01_k».proof.Proof.Ideal.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option sl_exec.resultNames true in
set_option maxHeartbeats 4000000 in
/-- The body at a point that searches a block of the buffer, with the last writes after it. -/
theorem runBG (c : Dev nD) (i : grid0.Coords) (arg1 : Memref sig .tc .smem S1x1 .f32) (harg1 : arg1.IsWhole) (arg2 : Memref sig .tc .smem S1x1 .i32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S8x1024 .i8) (harg6 : arg6.IsWhole) (arg7 : Memref sig .tc .vmem S8x1024 .f32) (harg7 : arg7.IsWhole) (arg8 : Memref sig .tc .vmem S1024x2048 .f32) (harg8 : arg8.IsWhole) (arg9 : Memref sig .tc .vmem S512x2048 .f32) (harg9 : arg9.IsWhole) (arg10 : Memref sig .tc .vmem S8x1024 .f32) (harg10 : arg10.IsWhole) (arg11 : Memref sig .tc .vmem S8x1024 .i8) (harg11 : arg11.IsWhole) (arg12 : Memref sig .tc .vmem S8x2048 .f32) (harg12 : arg12.IsWhole) (arg13 : Memref sig .tc .vmem S1x2048 .f32) (harg13 : arg13.IsWhole) (arg14 : Memref sig .tc .smem S1x1 .f32) (harg14 : arg14.IsWhole) (arg15 : Memref sig .tc .smem S1x1 .f32) (harg15 : arg15.IsWhole) (arg16 : Memref sig .tc .smem S1x1 .i32) (harg16 : arg16.IsWhole) (hA : ¬condA i) (hN : ¬condN i) (hB : condB i) (hG : condG i) (hC : ¬condC i)
    (x1 : Vec F S1x1 .f32) (x2 : Vec F S1x1 .i32) (x3 : Vec F S512x2048 .f32) (x4 : Vec F S512x2048 .f32) (x5 : Vec F S512x2048 .f32) (x6 : Vec F S8x1024 .i8) (x7 : Vec F S8x1024 .f32) (x8 : Vec F S1024x2048 .f32) (x9 : Vec F S512x2048 .f32) (x10 : Vec F S8x1024 .f32) (x11 : Vec F S8x1024 .i8) (x12 : Vec F S8x2048 .f32) (x13 : Vec F S1x2048 .f32) (x14 : Vec F S1x1 .f32) (x15 : Vec F S1x1 .f32) (x16 : Vec F S1x1 .i32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay149 (BitVec.ofNat 32 (i 0).val) x13 x5 (sm x2)) ∗ owns (c : Thread nD τ) arg10 fullShare (k0_pay3 (k0_pay156 (bestS x13 x5 (sm x15)) (bestI (BitVec.ofNat 32 (i 0).val) x13 x5 (sm x15) (sm x16)) x7) (k0_pay157 (sm x2)) (Scalar.ofBits .f32 0x3F800000#32)) ∗ owns (c : Thread nD τ) arg11 fullShare (k0_pay4 k0_pay154 (sm x2) x6) ∗ owns (c : Thread nD τ) arg12 fullShare x12 ∗ owns (c : Thread nD τ) arg13 fullShare x13 ∗ owns (c : Thread nD τ) arg14 fullShare (fun _ => k0_pay155 (bestI (BitVec.ofNat 32 (i 0).val) x13 x5 (sm x15) (sm x16)) x7 (sm x1)) ∗ owns (c : Thread nD τ) arg15 fullShare (fun _ => bestS x13 x5 (sm x15)) ∗ owns (c : Thread nD τ) arg16 fullShare (fun _ => bestI (BitVec.ofNat 32 (i 0).val) x13 x5 (sm x15) (sm x16))) -∗ K ⟨⟩))
      ⊢ wp frame (wpE (defs₀ (F := F)) Variants.none c none) E (cc0_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_body_eq_skeleton]; unfold cc0_body_skel
  simp only [k0_part46_eq_skeleton, k0_part47_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1; subst hf2; subst hf3; subst hf4; subst hf5; subst hf6; subst hf7; subst hf8; subst hf9; subst hf10; subst hf11; subst hf12; subst hf13; subst hf14; subst hf15; subst hf16
  sl_exec (disch := first | sl_exact hA | sl_exact hN | sl_exact hB | sl_exact hG | sl_exact hC)
  sl_step
  iapply Hk
  isplitl [H1]
  · iexists _; isplitr; rotate_left
    · iexact H1
    · ipureintro; rfl
  isplitl [H2]
  · iexists _; isplitr; rotate_left
    · iexact H2
    · ipureintro; rfl
  isplitl [H3]
  · iexists _; isplitr; rotate_left
    · iexact H3
    · ipureintro; rfl
  isplitl [H4]
  · iexists _; isplitr; rotate_left
    · iexact H4
    · ipureintro; rfl
  isplitl [H5]
  · iexists _; isplitr; rotate_left
    · iexact H5
    · ipureintro; rfl
  isplitl [H6]
  · iexists _; isplitr; rotate_left
    · iexact H6
    · ipureintro; rfl
  isplitl [H7]
  · iexists _; isplitr; rotate_left
    · iexact H7
    · ipureintro; rfl
  isplitl [H8]
  · iexists _; isplitr; rotate_left
    · iexact H8
    · ipureintro; rfl
  isplitl [H9]
  · iexists _; isplitr; rotate_left
    · iexact H9
    · ipureintro; exact (View.read_writes_full _ _ _ _ _).trans (congr (congr (congrArg (k0_pay149 _) (View.readAt_full arg13.view f13 _)) (View.readAt_full arg5.view f5 _)) (sm_eq (View.read (Elt F) arg2.view f2) _))
  isplitl [H10]
  · iexists _; isplitr; rotate_left
    · iexact H10
    · ipureintro; exact (View.read_writes_full _ _ _ _ _).trans (congrArg₂ (fun a b => k0_pay3 a b _) (congr (congr (congrArg k0_pay156 (((sm_eq (View.read (Elt F) arg15.view _) _)).trans (congrArg (a₂ := fun _ => bestS (View.read (Elt F) arg13.view f13) (View.read (Elt F) arg5.view f5) (sm (View.read (Elt F) arg15.view f15))) sm (by
        (try delta runBG.sl.f); simp only [bit_ne]
        split <;> rename_i h5
        · have h6 : Scalar.cmpf .ogt (k0_pay151 (View.read (Elt F) arg13.view f13) (View.read (Elt F) arg5.view f5)) (sm (View.read (Elt F) arg15.view f15)) = 1#1 := (congrArg₂ (Scalar.cmpf .ogt) (congrArg₂ k0_pay151 (View.readAt_full arg13.view f13 _) (View.readAt_full arg5.view f5 _)) (sm_eq (View.read (Elt F) arg15.view f15) _)).symm.trans h5
          refine (View.read_writes_full _ _ _ _ _).trans (funext fun x => ?_)
          unfold bestS; rw [if_pos h6]
          exact (congrArg₂ k0_pay151 (View.readAt_full arg13.view f13 _) (View.readAt_full arg5.view f5 _))
        · have h6 : ¬ Scalar.cmpf .ogt (k0_pay151 (View.read (Elt F) arg13.view f13) (View.read (Elt F) arg5.view f5)) (sm (View.read (Elt F) arg15.view f15)) = 1#1 := fun h => h5 ((congrArg₂ (Scalar.cmpf .ogt) (congrArg₂ k0_pay151 (View.readAt_full arg13.view f13 _) (View.readAt_full arg5.view f5 _)) (sm_eq (View.read (Elt F) arg15.view f15) _)).trans h)
          refine funext fun x => ?_
          unfold bestS; rw [if_neg h6]
          all_goals exact (sm_eq (View.read (Elt F) arg15.view f15) _))))) (((sm_eq (View.read (Elt F) arg16.view _) _)).trans (congrArg (a₂ := fun _ => bestI (BitVec.ofNat 32 (i 0).val) (View.read (Elt F) arg13.view f13) (View.read (Elt F) arg5.view f5) (sm (View.read (Elt F) arg15.view f15)) (sm (View.read (Elt F) arg16.view f16))) sm (by
        (try delta runBG.sl.f_1); simp only [bit_ne]
        split <;> rename_i h5
        · have h6 : Scalar.cmpf .ogt (k0_pay151 (View.read (Elt F) arg13.view f13) (View.read (Elt F) arg5.view f5)) (sm (View.read (Elt F) arg15.view f15)) = 1#1 := (congrArg₂ (Scalar.cmpf .ogt) (congrArg₂ k0_pay151 (View.readAt_full arg13.view f13 _) (View.readAt_full arg5.view f5 _)) (sm_eq (View.read (Elt F) arg15.view f15) _)).symm.trans h5
          refine (View.read_writes_full _ _ _ _ _).trans (funext fun x => ?_)
          unfold bestI; rw [if_pos h6]
          exact congrArg (fun q => extractAt ![0, 0, 0] q inpos_S1x1x1_p0_0_0) (congrArg₂ (k0_pay152 _) (View.readAt_full arg13.view f13 _) (View.readAt_full arg5.view f5 _))
        · have h6 : ¬ Scalar.cmpf .ogt (k0_pay151 (View.read (Elt F) arg13.view f13) (View.read (Elt F) arg5.view f5)) (sm (View.read (Elt F) arg15.view f15)) = 1#1 := fun h => h5 ((congrArg₂ (Scalar.cmpf .ogt) (congrArg₂ k0_pay151 (View.readAt_full arg13.view f13 _) (View.readAt_full arg5.view f5 _)) (sm_eq (View.read (Elt F) arg15.view f15) _)).trans h)
          refine funext fun x => ?_
          unfold bestI; rw [if_neg h6]
          all_goals exact (sm_eq (View.read (Elt F) arg16.view f16) _))))) (View.readAt_full arg7.view f7 _)) (congrArg k0_pay157 (sm_eq (View.read (Elt F) arg2.view f2) _)))
  isplitl [H11]
  · iexists _; isplitr; rotate_left
    · iexact H11
    · ipureintro; exact (View.read_writes_full _ _ _ _ _).trans (congrArg₂ (k0_pay4 k0_pay154) (sm_eq (View.read (Elt F) arg2.view f2) _) (View.readAt_full arg6.view f6 _))
  isplitl [H12]
  · iexists _; isplitr; rotate_left
    · iexact H12
    · ipureintro; rfl
  isplitl [H13]
  · iexists _; isplitr; rotate_left
    · iexact H13
    · ipureintro; rfl
  isplitl [H14]
  · iexists _; isplitr; rotate_left
    · iexact H14
    · ipureintro; exact (View.read_writes_full _ _ _ _ _).trans (funext fun _ => congr (congr (congrArg k0_pay155 (((sm_eq (View.read (Elt F) arg16.view _) _)).trans (congrArg (a₂ := fun _ => bestI (BitVec.ofNat 32 (i 0).val) (View.read (Elt F) arg13.view f13) (View.read (Elt F) arg5.view f5) (sm (View.read (Elt F) arg15.view f15)) (sm (View.read (Elt F) arg16.view f16))) sm (by
        (try delta runBG.sl.f_1); simp only [bit_ne]
        split <;> rename_i h5
        · have h6 : Scalar.cmpf .ogt (k0_pay151 (View.read (Elt F) arg13.view f13) (View.read (Elt F) arg5.view f5)) (sm (View.read (Elt F) arg15.view f15)) = 1#1 := (congrArg₂ (Scalar.cmpf .ogt) (congrArg₂ k0_pay151 (View.readAt_full arg13.view f13 _) (View.readAt_full arg5.view f5 _)) (sm_eq (View.read (Elt F) arg15.view f15) _)).symm.trans h5
          refine (View.read_writes_full _ _ _ _ _).trans (funext fun x => ?_)
          unfold bestI; rw [if_pos h6]
          exact congrArg (fun q => extractAt ![0, 0, 0] q inpos_S1x1x1_p0_0_0) (congrArg₂ (k0_pay152 _) (View.readAt_full arg13.view f13 _) (View.readAt_full arg5.view f5 _))
        · have h6 : ¬ Scalar.cmpf .ogt (k0_pay151 (View.read (Elt F) arg13.view f13) (View.read (Elt F) arg5.view f5)) (sm (View.read (Elt F) arg15.view f15)) = 1#1 := fun h => h5 ((congrArg₂ (Scalar.cmpf .ogt) (congrArg₂ k0_pay151 (View.readAt_full arg13.view f13 _) (View.readAt_full arg5.view f5 _)) (sm_eq (View.read (Elt F) arg15.view f15) _)).trans h)
          refine funext fun x => ?_
          unfold bestI; rw [if_neg h6]
          all_goals exact (sm_eq (View.read (Elt F) arg16.view f16) _))))) (View.readAt_full arg7.view f7 _)) (sm_eq (View.read (Elt F) arg1.view f1) _))
  isplitl [H15]
  · iexists _; isplitr; rotate_left
    · iexact H15
    · ipureintro
      simp only [bit_ne]
      split <;> rename_i h5
      · have h6 : Scalar.cmpf .ogt (k0_pay151 (View.read (Elt F) arg13.view f13) (View.read (Elt F) arg5.view f5)) (sm (View.read (Elt F) arg15.view f15)) = 1#1 := (congrArg₂ (Scalar.cmpf .ogt) (congrArg₂ k0_pay151 (View.readAt_full arg13.view f13 _) (View.readAt_full arg5.view f5 _)) (sm_eq (View.read (Elt F) arg15.view f15) _)).symm.trans h5
        refine (View.read_writes_full _ _ _ _ _).trans (funext fun x => ?_)
        unfold bestS; rw [if_pos h6]
        exact (congrArg₂ k0_pay151 (View.readAt_full arg13.view f13 _) (View.readAt_full arg5.view f5 _))
      · have h6 : ¬ Scalar.cmpf .ogt (k0_pay151 (View.read (Elt F) arg13.view f13) (View.read (Elt F) arg5.view f5)) (sm (View.read (Elt F) arg15.view f15)) = 1#1 := fun h => h5 ((congrArg₂ (Scalar.cmpf .ogt) (congrArg₂ k0_pay151 (View.readAt_full arg13.view f13 _) (View.readAt_full arg5.view f5 _)) (sm_eq (View.read (Elt F) arg15.view f15) _)).trans h)
        refine funext fun x => ?_
        unfold bestS; rw [if_neg h6]
        all_goals exact (sm_eq (View.read (Elt F) arg15.view f15) _)
  iexists _; isplitr; rotate_left
  · iexact H16
  · ipureintro
    simp only [bit_ne]
    split <;> rename_i h5
    · have h6 : Scalar.cmpf .ogt (k0_pay151 (View.read (Elt F) arg13.view f13) (View.read (Elt F) arg5.view f5)) (sm (View.read (Elt F) arg15.view f15)) = 1#1 := (congrArg₂ (Scalar.cmpf .ogt) (congrArg₂ k0_pay151 (View.readAt_full arg13.view f13 _) (View.readAt_full arg5.view f5 _)) (sm_eq (View.read (Elt F) arg15.view f15) _)).symm.trans h5
      refine (View.read_writes_full _ _ _ _ _).trans (funext fun x => ?_)
      unfold bestI; rw [if_pos h6]
      exact congrArg (fun q => extractAt ![0, 0, 0] q inpos_S1x1x1_p0_0_0) (congrArg₂ (k0_pay152 _) (View.readAt_full arg13.view f13 _) (View.readAt_full arg5.view f5 _))
    · have h6 : ¬ Scalar.cmpf .ogt (k0_pay151 (View.read (Elt F) arg13.view f13) (View.read (Elt F) arg5.view f5)) (sm (View.read (Elt F) arg15.view f15)) = 1#1 := fun h => h5 ((congrArg₂ (Scalar.cmpf .ogt) (congrArg₂ k0_pay151 (View.readAt_full arg13.view f13 _) (View.readAt_full arg5.view f5 _)) (sm_eq (View.read (Elt F) arg15.view f15) _)).trans h)
      refine funext fun x => ?_
      unfold bestI; rw [if_neg h6]
      all_goals exact (sm_eq (View.read (Elt F) arg16.view f16) _)

end Cert.KernelIdeal.Hand

end
-- ==== Proof.Ideal.RunC.lean ====
module

public import proofs.«01_k».proof.Proof.Ideal.Base
public import proofs.«01_k».proof.Proof.Ideal.Step

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option sl_exec.resultNames true in
set_option maxHeartbeats 1000000 in
/-- The body at a point that writes an output block. -/
theorem runC (c : Dev nD) (i : grid0.Coords) (arg1 : Memref sig .tc .smem S1x1 .f32) (harg1 : arg1.IsWhole) (arg2 : Memref sig .tc .smem S1x1 .i32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S8x1024 .i8) (harg6 : arg6.IsWhole) (arg7 : Memref sig .tc .vmem S8x1024 .f32) (harg7 : arg7.IsWhole) (arg8 : Memref sig .tc .vmem S1024x2048 .f32) (harg8 : arg8.IsWhole) (arg9 : Memref sig .tc .vmem S512x2048 .f32) (harg9 : arg9.IsWhole) (arg10 : Memref sig .tc .vmem S8x1024 .f32) (harg10 : arg10.IsWhole) (arg11 : Memref sig .tc .vmem S8x1024 .i8) (harg11 : arg11.IsWhole) (arg12 : Memref sig .tc .vmem S8x2048 .f32) (harg12 : arg12.IsWhole) (arg13 : Memref sig .tc .vmem S1x2048 .f32) (harg13 : arg13.IsWhole) (arg14 : Memref sig .tc .smem S1x1 .f32) (harg14 : arg14.IsWhole) (arg15 : Memref sig .tc .smem S1x1 .f32) (harg15 : arg15.IsWhole) (arg16 : Memref sig .tc .smem S1x1 .i32) (harg16 : arg16.IsWhole) (hA : ¬condA i) (hN : ¬condN i) (hB : ¬condB i) (hG : ¬condG i) (hC : condC i)
    (x1 : Vec F S1x1 .f32) (x2 : Vec F S1x1 .i32) (x3 : Vec F S512x2048 .f32) (x4 : Vec F S512x2048 .f32) (x5 : Vec F S512x2048 .f32) (x6 : Vec F S8x1024 .i8) (x7 : Vec F S8x1024 .f32) (x8 : Vec F S1024x2048 .f32) (x9 : Vec F S512x2048 .f32) (x10 : Vec F S8x1024 .f32) (x11 : Vec F S8x1024 .i8) (x12 : Vec F S8x2048 .f32) (x13 : Vec F S1x2048 .f32) (x14 : Vec F S1x1 .f32) (x15 : Vec F S1x1 .f32) (x16 : Vec F S1x1 .i32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outC (sm x14) x3 x4) ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16) -∗ K ⟨⟩))
      ⊢ wp frame (wpE (defs₀ (F := F)) Variants.none c none) E (cc0_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_body_eq_skeleton]; unfold cc0_body_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1; subst hf2; subst hf3; subst hf4; subst hf5; subst hf6; subst hf7; subst hf8; subst hf9; subst hf10; subst hf11; subst hf12; subst hf13; subst hf14; subst hf15; subst hf16
  sl_exec (disch := first | sl_exact hA | sl_exact hN | sl_exact hB | sl_exact hG | sl_exact hC)
  sl_step
  iapply Hk
  isplitl [H1]
  · iexists _; isplitr; rotate_left
    · iexact H1
    · ipureintro; rfl
  isplitl [H2]
  · iexists _; isplitr; rotate_left
    · iexact H2
    · ipureintro; rfl
  isplitl [H3]
  · iexists _; isplitr; rotate_left
    · iexact H3
    · ipureintro; rfl
  isplitl [H4]
  · iexists _; isplitr; rotate_left
    · iexact H4
    · ipureintro; rfl
  isplitl [H5]
  · iexists _; isplitr; rotate_left
    · iexact H5
    · ipureintro; rfl
  isplitl [H6]
  · iexists _; isplitr; rotate_left
    · iexact H6
    · ipureintro; rfl
  isplitl [H7]
  · iexists _; isplitr; rotate_left
    · iexact H7
    · ipureintro; rfl
  isplitl [H8]
  · iexists _; isplitr; rotate_left
    · iexact H8
    · ipureintro; (
        funext y
        rw [View.read_writes_cons_rows (o := 512) (W := 512) (size := ![512, 2048]) _ _ _ _ _ y rfl rfl rfl, View.read_writes_cons_rows (o := 0) (W := 512) (size := ![512, 2048]) _ _ _ _ _ y rfl rfl rfl]
        unfold outC
        split_ifs with h1 h2
        · exact congrFun (congrArg₂ k0_pay6 (sm_eq (View.read (Elt F) arg14.view f14) _) (View.readAt_full arg4.view f4 _)) _
        · exact congrFun (congrArg₂ k0_pay5 (sm_eq (View.read (Elt F) arg14.view f14) _) (View.readAt_full arg3.view f3 _)) _
        · exact absurd ⟨Nat.zero_le _, (by have := (y (0 : Fin 2)).isLt; simp only [not_and, not_lt] at h1; have h5 : (y (0 : Fin 2)).val < 1024 := this; omega)⟩ h2)
  isplitl [H9]
  · iexists _; isplitr; rotate_left
    · iexact H9
    · ipureintro; rfl
  isplitl [H10]
  · iexists _; isplitr; rotate_left
    · iexact H10
    · ipureintro; rfl
  isplitl [H11]
  · iexists _; isplitr; rotate_left
    · iexact H11
    · ipureintro; rfl
  isplitl [H12]
  · iexists _; isplitr; rotate_left
    · iexact H12
    · ipureintro; rfl
  isplitl [H13]
  · iexists _; isplitr; rotate_left
    · iexact H13
    · ipureintro; rfl
  isplitl [H14]
  · iexists _; isplitr; rotate_left
    · iexact H14
    · ipureintro; rfl
  isplitl [H15]
  · iexists _; isplitr; rotate_left
    · iexact H15
    · ipureintro; rfl
  iexists _; isplitr; rotate_left
  · iexact H16
  · ipureintro; rfl

end Cert.KernelIdeal.Hand

end
-- ==== Proof.Ideal.Sound.lean ====
module

public import proofs.«01_k».proof.Proof.Ideal.Data
public import proofs.«01_k».proof.Proof.Ideal.RunA
public import proofs.«01_k».proof.Proof.Ideal.RunB0
public import proofs.«01_k».proof.Proof.Ideal.RunB
public import proofs.«01_k».proof.Proof.Ideal.RunBG
public import proofs.«01_k».proof.Proof.Ideal.RunC
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 38400000 in
/-- The body at any point: the inputs hold their blocks, the point is of one of five kinds, and the run of that kind applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  unfold PhiS
  have hN : t.val < 48 := lt_of_lt_of_eq t.isLt (show cfg0.N = 48 from N_0)
  rw [show (dats m 0 c).leavesExact 0 t = owns (c : Thread nD τ) (ms0_0 t) fullShare (iblk m c 0 t) from by
    unfold Dat.leavesExact; rw [liveAt0_0 t, after0_0]]
  rw [show (dats m 0 c).leavesExact 1 t = owns (c : Thread nD τ) (ms0_1 t) fullShare (iblk m c 1 t) from by
    unfold Dat.leavesExact; rw [liveAt0_1 t, after0_1]]
  rw [show (dats m 0 c).leavesExact 2 t = owns (c : Thread nD τ) (ms0_2 t) fullShare (iblk m c 2 t) from by
    unfold Dat.leavesExact; rw [liveAt0_2 t, after0_2]]
  rw [show (dats m 0 c).leavesExact 3 t = owns (c : Thread nD τ) (ms0_3 t) fullShare (iblk m c 3 t) from by
    unfold Dat.leavesExact; rw [liveAt0_3 t, after0_3]]
  rw [show (dats m 0 c).leavesExact 4 t = owns (c : Thread nD τ) (ms0_4 t) fullShare (iblk m c 4 t) from by
    unfold Dat.leavesExact; rw [liveAt0_4 t, after0_4]]
  rw [show (dats m 0 c).leavesExact 5 t = owns (c : Thread nD τ) (ms0_5 t) fullShare (iblk m c 5 t) from by
    unfold Dat.leavesExact; rw [liveAt0_5 t, after0_5]]
  rw [show (dats m 0 c).leavesExact 6 t = owns (c : Thread nD τ) (ms0_6 t) fullShare (iblk m c 6 t) from by
    unfold Dat.leavesExact; rw [liveAt0_6 t, after0_6]]
  by_cases h0 : t.val < 16
  · have hA : condA (grid0.coords t) := (hcondA t).mpr (by omega)
    have hN : ¬ condN (grid0.coords t) := fun h => by have := (hcondN t).mp h; omega
    have hB : ¬ condB (grid0.coords t) := fun h => by have := (hcondB t).mp h; omega
    have hG : ¬ condG (grid0.coords t) := fun h => by have := (hcondG t).mp h; omega
    have hC : ¬ condC (grid0.coords t) := fun h => by have := (hcondC t).mp h; omega
    iintro ⟨⟨⟨%e0, %e1, %e2, %e3, %e4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hJ := inv_A m c t h0 hI
    iapply (runA c (grid0.coords t) _ _ _ _ _ _ _ _ _ _ _ _ _ _ _ _ _ _ _ _ _ _ _ _ _ _ _ _ _ _ _ _ hA hN hB hG hC (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) e0 e1 e2 e3 e4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, HS0, HS1, HS2, HS3, HS4⟩
    isplitl [HS0 HS1 HS2 HS3 HS4 Hg]
    · isplitl [HS0 HS1 HS2 HS3 HS4]
      · iexists _, _, _, _, _
        isplitr; rotate_left
        · isplitl [HS0]; · iexact HS0
          isplitl [HS1]; · iexact HS1
          isplitl [HS2]; · iexact HS2
          isplitl [HS3]; · iexact HS3
          iexact HS4
        · ipureintro; exact hJ
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leave_idle m c 7 t (idle7 t hC) (flush7 t (by omega)) d7); iexact H7
    isplitl [H8]; · iapply (keep8 m c t (by omega) d8); iexact H8
    isplitl [H9]; · iapply (keep9 m c t (by omega) d9); iexact H9
    iapply (keep10 m c t (by omega) d10); iexact H10
  by_cases h1 : t.val = 16
  · have hA : ¬ condA (grid0.coords t) := fun h => by have := (hcondA t).mp h; omega
    have hN : condN (grid0.coords t) := (hcondN t).mpr (by omega)
    have hB : condB (grid0.coords t) := (hcondB t).mpr (by omega)
    have hG : ¬ condG (grid0.coords t) := fun h => by have := (hcondG t).mp h; omega
    have hC : ¬ condC (grid0.coords t) := fun h => by have := (hcondC t).mp h; omega
    iintro ⟨⟨⟨%e0, %e1, %e2, %e3, %e4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    obtain ⟨hm, hJ⟩ := inv_N m c t h1 hI
    have l8 : (dats m 0 c).leavesExact 8 t = owns (c : Thread nD τ) (ms0_8 t) fullShare (k0_pay149 (w0 t) (k0_pay2 e0) (iblk m c 4 t) (sm (iblk m c 1 t))) := by
      unfold Dat.leavesExact; rw [live8 t hB, after0_8]; unfold nbufV; rw [show min t.val 31 = t.val by omega, pt_val, hm]
    iapply (runB0 c (grid0.coords t) _ _ _ _ _ _ _ _ _ _ _ _ _ _ _ _ _ _ _ _ _ _ _ _ _ _ _ _ _ _ _ _ hA hN hB hG hC (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) e0 e1 e2 e3 e4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, HS0, HS1, HS2, HS3, HS4⟩
    isplitl [HS0 HS1 HS2 HS3 HS4 Hg]
    · isplitl [HS0 HS1 HS2 HS3 HS4]
      · iexists _, _, _, _, _
        isplitr; rotate_left
        · isplitl [HS0]; · iexact HS0
          isplitl [HS1]; · iexact HS1
          isplitl [HS2]; · iexact HS2
          isplitl [HS3]; · iexact HS3
          iexact HS4
        · ipureintro; exact hJ
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leave_idle m c 7 t (idle7 t hC) (flush7 t (by omega)) d7); iexact H7
    isplitl [H8]; · rw [l8]; iexact H8
    isplitl [H9]; · iapply (keep9 m c t (by omega) d9); iexact H9
    iapply (keep10 m c t (by omega) d10); iexact H10
  by_cases h2 : t.val < 31
  · have hA : ¬ condA (grid0.coords t) := fun h => by have := (hcondA t).mp h; omega
    have hN : ¬ condN (grid0.coords t) := fun h => by have := (hcondN t).mp h; omega
    have hB : condB (grid0.coords t) := (hcondB t).mpr (by omega)
    have hG : ¬ condG (grid0.coords t) := fun h => by have := (hcondG t).mp h; omega
    have hC : ¬ condC (grid0.coords t) := fun h => by have := (hcondC t).mp h; omega
    iintro ⟨⟨⟨%e0, %e1, %e2, %e3, %e4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hm := (inv_B m c t (by omega) (by omega) hI).1
    have hJ := inv_B' m c t (by omega) (by omega) hI
    have l8 : (dats m 0 c).leavesExact 8 t = owns (c : Thread nD τ) (ms0_8 t) fullShare (k0_pay149 (w0 t) e1 (iblk m c 4 t) (sm (iblk m c 1 t))) := by
      unfold Dat.leavesExact; rw [live8 t hB, after0_8]; unfold nbufV; rw [show min t.val 31 = t.val by omega, pt_val, hm]
    iapply (runB c (grid0.coords t) _ _ _ _ _ _ _ _ _ _ _ _ _ _ _ _ _ _ _ _ _ _ _ _ _ _ _ _ _ _ _ _ hA hN hB hG hC (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) e0 e1 e2 e3 e4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, HS0, HS1, HS2, HS3, HS4⟩
    isplitl [HS0 HS1 HS2 HS3 HS4 Hg]
    · isplitl [HS0 HS1 HS2 HS3 HS4]
      · iexists _, _, _, _, _
        isplitr; rotate_left
        · isplitl [HS0]; · iexact HS0
          isplitl [HS1]; · iexact HS1
          isplitl [HS2]; · iexact HS2
          isplitl [HS3]; · iexact HS3
          iexact HS4
        · ipureintro; exact hJ
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leave_idle m c 7 t (idle7 t hC) (flush7 t (by omega)) d7); iexact H7
    isplitl [H8]; · rw [l8]; iexact H8
    isplitl [H9]; · iapply (keep9 m c t (by omega) d9); iexact H9
    iapply (keep10 m c t (by omega) d10); iexact H10
  by_cases h3 : t.val = 31
  · have hA : ¬ condA (grid0.coords t) := fun h => by have := (hcondA t).mp h; omega
    have hN : ¬ condN (grid0.coords t) := fun h => by have := (hcondN t).mp h; omega
    have hB : condB (grid0.coords t) := (hcondB t).mpr (by omega)
    have hG : condG (grid0.coords t) := (hcondG t).mpr (by omega)
    have hC : ¬ condC (grid0.coords t) := fun h => by have := (hcondC t).mp h; omega
    iintro ⟨⟨⟨%e0, %e1, %e2, %e3, %e4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    obtain ⟨hm, hs, hi⟩ := inv_B m c t (by omega) (by omega) hI
    have hJ := inv_G m c t h3 hI
    have hp : pt 31 = t := by rw [← pt_val t, h3]
    rw [h3] at hs hi
    have l8 : (dats m 0 c).leavesExact 8 t = owns (c : Thread nD τ) (ms0_8 t) fullShare (k0_pay149 (w0 t) e1 (iblk m c 4 t) (sm (iblk m c 1 t))) := by
      unfold Dat.leavesExact; rw [live8 t hB, after0_8]; unfold nbufV; rw [show min t.val 31 = t.val by omega, pt_val, hm]
    have l9 : (dats m 0 c).leavesExact 9 t = owns (c : Thread nD τ) (ms0_9 t) fullShare (k0_pay3 (k0_pay156 (bestS e1 (iblk m c 4 t) (sm e3)) (bestI (w0 t) e1 (iblk m c 4 t) (sm e3) (sm e4)) (iblk m c 6 t)) (k0_pay157 (sm (iblk m c 1 t))) (Scalar.ofBits .f32 0x3F800000#32)) := by
      unfold Dat.leavesExact; rw [live9 t hG, after0_9]; unfold ndeplV; rw [hp, hs, hi]
    have l10 : (dats m 0 c).leavesExact 10 t = owns (c : Thread nD τ) (ms0_10 t) fullShare (k0_pay4 k0_pay154 (sm (iblk m c 1 t)) (iblk m c 5 t)) := by
      unfold Dat.leavesExact; rw [live10 t hG, after0_10]; unfold nmaskV; rw [hp]
    iapply (runBG c (grid0.coords t) _ _ _ _ _ _ _ _ _ _ _ _ _ _ _ _ _ _ _ _ _ _ _ _ _ _ _ _ _ _ _ _ hA hN hB hG hC (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) e0 e1 e2 e3 e4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, HS0, HS1, HS2, HS3, HS4⟩
    isplitl [HS0 HS1 HS2 HS3 HS4 Hg]
    · isplitl [HS0 HS1 HS2 HS3 HS4]
      · iexists _, _, _, _, _
        isplitr; rotate_left
        · isplitl [HS0]; · iexact HS0
          isplitl [HS1]; · iexact HS1
          isplitl [HS2]; · iexact HS2
          isplitl [HS3]; · iexact HS3
          iexact HS4
        · ipureintro; exact hJ
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leave_idle m c 7 t (idle7 t hC) (flush7 t (by omega)) d7); iexact H7
    isplitl [H8]; · rw [l8]; iexact H8
    isplitl [H9]; · rw [l9]; iexact H9
    rw [l10]; iexact H10
  · have hA : ¬ condA (grid0.coords t) := fun h => by have := (hcondA t).mp h; omega
    have hN : ¬ condN (grid0.coords t) := fun h => by have := (hcondN t).mp h; omega
    have hB : ¬ condB (grid0.coords t) := fun h => by have := (hcondB t).mp h; omega
    have hG : ¬ condG (grid0.coords t) := fun h => by have := (hcondG t).mp h; omega
    have hC : condC (grid0.coords t) := (hcondC t).mpr (by omega)
    iintro ⟨⟨⟨%e0, %e1, %e2, %e3, %e4, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    obtain ⟨hs, hJ⟩ := inv_C m c t (by omega) hI
    have l7 : (dats m 0 c).leavesExact 7 t = owns (c : Thread nD τ) (ms0_7 t) fullShare (outC (sm e2) (iblk m c 2 t) (iblk m c 3 t)) := by
      unfold Dat.leavesExact; rw [live7 t hC, after0_7]; rw [hs]
    iapply (runC c (grid0.coords t) _ _ _ _ _ _ _ _ _ _ _ _ _ _ _ _ _ _ _ _ _ _ _ _ _ _ _ _ _ _ _ _ hA hN hB hG hC (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) e0 e1 e2 e3 e4 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, HS0, HS1, HS2, HS3, HS4⟩
    isplitl [HS0 HS1 HS2 HS3 HS4 Hg]
    · isplitl [HS0 HS1 HS2 HS3 HS4]
      · iexists _, _, _, _, _
        isplitr; rotate_left
        · isplitl [HS0]; · iexact HS0
          isplitl [HS1]; · iexact HS1
          isplitl [HS2]; · iexact HS2
          isplitl [HS3]; · iexact HS3
          iexact HS4
        · ipureintro; exact hJ
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · rw [l7]; iexact H7
    isplitl [H8]; · iapply (keep8 m c t (by omega) d8); iexact H8
    isplitl [H9]; · iapply (keep9 m c t (by omega) d9); iexact H9
    iapply (keep10 m c t (by omega) d10); iexact H10

theorem defs₀_row (t : Fin cfg0.N) :
    defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq]
  unfold PhiS
  iintro ⟨⟨⟨%e0, HS0⟩, ⟨%e1, HS1⟩, ⟨%e2, HS2⟩, ⟨%e3, HS3⟩, ⟨%e4, HS4⟩⟩, Hg⟩
  isplitl [HS0 HS1 HS2 HS3 HS4]
  · iexists e0, e1, e2, e3, e4
    isplitr
    · ipureintro; exact ⟨fun h => absurd h (by decide), fun h => absurd h (by decide), fun h => absurd h (by decide)⟩
    isplitl [HS0]; · iexact HS0
    isplitl [HS1]; · iexact HS1
    isplitl [HS2]; · iexact HS2
    isplitl [HS3]; · iexact HS3
    iexact HS4
  iexact Hg

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%e0, %e1, %e2, %e3, %e4, -, HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
set_option maxHeartbeats 800000 in
/-- The launch: every window's array at what the points wrote into it, the other buffers at what the host operations leave, and every semaphore counter at zero. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.RefRun.lean ====
/- The reference program, run: its operations as a list, the values it computes named one after the other, and the
   run, which ends with each result at its named value and the arguments unchanged. -/
module

public import proofs.«01_k».proof.Proof.Gen.ReferenceIdeal
public import Idealize.ShloMosaic.Lib.StableHlo.RunRead
public import Idealize.ShloMosaic.Lib.StableHlo.RunClose
public import Idealize.ShloMosaic.Lib.StableHlo.RunClose

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of part 1 of the program, in order, those of a called function in the call's place. -/
abbrev part1 : List (HloOp τ sig (Elt F)) :=
  [ unary main_arg1 main_v0 (Host.exp : (⟨S_, .f32⟩ : BufTy).Contents (Elt F) → (⟨S_, .f32⟩ : BufTy).Contents (Elt F)),
    nullary main_cst (constant S_ .f32 0x3DCCCCCD#32),
    nullary main_cst_0 (constant S_ .f32 0x41000000#32),
    TRef.unary (TRef.of (T := ⟨S_, .f32⟩) main_cst) (TRef.of (T := ⟨S_, .f32⟩) main_call0_v0) id,
    TRef.binary (TRef.of (T := ⟨S_, .f32⟩) main_call0_v0) (TRef.of (T := ⟨S_, .f32⟩) main_v0) (TRef.of (T := ⟨S_, .f32⟩) main_call0_v1) maximumf,
    TRef.unary (TRef.of (T := ⟨S_, .f32⟩) main_cst_0) (TRef.of (T := ⟨S_, .f32⟩) main_call0_v2) id,
    TRef.binary (TRef.of (T := ⟨S_, .f32⟩) main_call0_v2) (TRef.of (T := ⟨S_, .f32⟩) main_call0_v1) (TRef.of (T := ⟨S_, .f32⟩) main_v1) minimumf,
    nullary main_cst_1 (constant S_ .f32 0x3F000000#32),
    unary main_cst_1 main_v2 (broadcastInDim S4x4096x2048 ![] bcast_S_S4x4096x2048 : (⟨S_, .f32⟩ : BufTy).Contents (Elt F) → (⟨S4x4096x2048, .f32⟩ : BufTy).Contents (Elt F)),
    binary main_v2 main_arg0 main_v3 (mulf : (⟨S4x4096x2048, .f32⟩ : BufTy).Contents (Elt F) → (⟨S4x4096x2048, .f32⟩ : BufTy).Contents (Elt F) → (⟨S4x4096x2048, .f32⟩ : BufTy).Contents (Elt F)),
    binary main_arg0 main_arg0 main_v4 (mulf : (⟨S4x4096x2048, .f32⟩ : BufTy).Contents (Elt F) → (⟨S4x4096x2048, .f32⟩ : BufTy).Contents (Elt F) → (⟨S4x4096x2048, .f32⟩ : BufTy).Contents (Elt F)),
    binary main_v4 main_arg0 main_v5 (mulf : (⟨S4x4096x2048, .f32⟩ : BufTy).Contents (Elt F) → (⟨S4x4096x2048, .f32⟩ : BufTy).Contents (Elt F) → (⟨S4x4096x2048, .f32⟩ : BufTy).Contents (Elt F)),
    nullary main_cst_2 (constant S_ .f32 0x3D372713#32),
    unary main_cst_2 main_v6 (broadcastInDim S4x4096x2048 ![] bcast_S_S4x4096x2048 : (⟨S_, .f32⟩ : BufTy).Contents (Elt F) → (⟨S4x4096x2048, .f32⟩ : BufTy).Contents (Elt F)),
    binary main_v6 main_v5 main_v7 (mulf : (⟨S4x4096x2048, .f32⟩ : BufTy).Contents (Elt F) → (⟨S4x4096x2048, .f32⟩ : BufTy).Contents (Elt F) → (⟨S4x4096x2048, .f32⟩ : BufTy).Contents (Elt F)),
    binary main_arg0 main_v7 main_v8 (addf : (⟨S4x4096x2048, .f32⟩ : BufTy).Contents (Elt F) → (⟨S4x4096x2048, .f32⟩ : BufTy).Contents (Elt F) → (⟨S4x4096x2048, .f32⟩ : BufTy).Contents (Elt F)),
    nullary main_cst_3 (constant S_ .f32 0x3F4C422A#32),
    unary main_cst_3 main_v9 (broadcastInDim S4x4096x2048 ![] bcast_S_S4x4096x2048 : (⟨S_, .f32⟩ : BufTy).Contents (Elt F) → (⟨S4x4096x2048, .f32⟩ : BufTy).Contents (Elt F)),
    binary main_v9 main_v8 main_v10 (mulf : (⟨S4x4096x2048, .f32⟩ : BufTy).Contents (Elt F) → (⟨S4x4096x2048, .f32⟩ : BufTy).Contents (Elt F) → (⟨S4x4096x2048, .f32⟩ : BufTy).Contents (Elt F)),
    unary main_v10 main_v11 (Host.tanh : (⟨S4x4096x2048, .f32⟩ : BufTy).Contents (Elt F) → (⟨S4x4096x2048, .f32⟩ : BufTy).Contents (Elt F)),
    nullary main_cst_4 (constant S_ .f32 0x3F800000#32),
    unary main_cst_4 main_v12 (broadcastInDim S4x4096x2048 ![] bcast_S_S4x4096x2048 : (⟨S_, .f32⟩ : BufTy).Contents (Elt F) → (⟨S4x4096x2048, .f32⟩ : BufTy).Contents (Elt F)),
    binary main_v12 main_v11 main_v13 (addf : (⟨S4x4096x2048, .f32⟩ : BufTy).Contents (Elt F) → (⟨S4x4096x2048, .f32⟩ : BufTy).Contents (Elt F) → (⟨S4x4096x2048, .f32⟩ : BufTy).Contents (Elt F)),
    binary main_v3 main_v13 main_v14 (mulf : (⟨S4x4096x2048, .f32⟩ : BufTy).Contents (Elt F) → (⟨S4x4096x2048, .f32⟩ : BufTy).Contents (Elt F) → (⟨S4x4096x2048, .f32⟩ : BufTy).Contents (Elt F)),
    reshape main_v14 main_v15 (rfl : (.f32 : EltTy) = .f32) shapeCasts_S4x4096x2048_S16384x2048,
    nullary main_cst_5 (constant S_ .f32 0x00000000#32),
    binary main_v15 main_cst_5 main_v16 ((fun x v => Host.reduceAdd x v reducesTo_S16384x2048_S2048_d0 h_S_) : (⟨S16384x2048, .f32⟩ : BufTy).Contents (Elt F) → (⟨S_, .f32⟩ : BufTy).Contents (Elt F) → (⟨S2048, .f32⟩ : BufTy).Contents (Elt F)),
    nullary main_cst_6 (constant S_ .f32 0x46800000#32),
    unary main_cst_6 main_v17 (broadcastInDim S2048 ![] bcast_S_S2048 : (⟨S_, .f32⟩ : BufTy).Contents (Elt F) → (⟨S2048, .f32⟩ : BufTy).Contents (Elt F)),
    binary main_v16 main_v17 main_v18 (Host.divf : (⟨S2048, .f32⟩ : BufTy).Contents (Elt F) → (⟨S2048, .f32⟩ : BufTy).Contents (Elt F) → (⟨S2048, .f32⟩ : BufTy).Contents (Elt F)) ]

/-- The operations of part 2 of the program, in order, those of a called function in the call's place. -/
abbrev part2 : List (HloOp τ sig (Elt F)) :=
  [ unary main_v18 main_v19 (broadcastInDim S1x2048 ![1] bcast_S2048_S1x2048_1 : (⟨S2048, .f32⟩ : BufTy).Contents (Elt F) → (⟨S1x2048, .f32⟩ : BufTy).Contents (Elt F)),
    TRef.binary (TRef.of (T := ⟨S1x2048, .f32⟩) main_v19) (TRef.of (T := ⟨S1x2048, .f32⟩) main_v19) (TRef.of (T := ⟨S1x2048, .f32⟩) main_call1_v0) mulf,
    TRef.nullary (TRef.of (T := ⟨S_, .f32⟩) main_call1_cst) (constant S_ .f32 0x00000000#32),
    TRef.binary (TRef.of (T := ⟨S1x2048, .f32⟩) main_call1_v0) (TRef.of (T := ⟨S_, .f32⟩) main_call1_cst) (TRef.of (T := ⟨S1, .f32⟩) main_call1_v1) (fun x v => Host.reduceAdd x v reducesTo_S1x2048_S1_d1 h_S_),
    TRef.unary (TRef.of (T := ⟨S1, .f32⟩) main_call1_v1) (TRef.of (T := ⟨S1x1, .f32⟩) main_call1_v2) (broadcastInDim S1x1 ![0] bcast_S1_S1x1_0),
    TRef.unary (TRef.of (T := ⟨S1x1, .f32⟩) main_call1_v2) (TRef.of (T := ⟨S1x1, .f32⟩) main_v20) Host.sqrt,
    nullary main_cst_7 (constant S_ .f32 0x2B8CBCCC#32),
    unary main_cst_7 main_v21 (broadcastInDim S1x1 ![] bcast_S_S1x1 : (⟨S_, .f32⟩ : BufTy).Contents (Elt F) → (⟨S1x1, .f32⟩ : BufTy).Contents (Elt F)),
    binary main_v20 main_v21 main_v22 (maximumf : (⟨S1x1, .f32⟩ : BufTy).Contents (Elt F) → (⟨S1x1, .f32⟩ : BufTy).Contents (Elt F) → (⟨S1x1, .f32⟩ : BufTy).Contents (Elt F)),
    unary main_v22 main_v23 (broadcastInDim S1x2048 ![0, 1] bcast_S1x1_S1x2048_0_1 : (⟨S1x1, .f32⟩ : BufTy).Contents (Elt F) → (⟨S1x2048, .f32⟩ : BufTy).Contents (Elt F)),
    binary main_v19 main_v23 main_v24 (Host.divf : (⟨S1x2048, .f32⟩ : BufTy).Contents (Elt F) → (⟨S1x2048, .f32⟩ : BufTy).Contents (Elt F) → (⟨S1x2048, .f32⟩ : BufTy).Contents (Elt F)),
    TRef.binary (TRef.of (T := ⟨S8192x2048, .f32⟩) main_arg2) (TRef.of (T := ⟨S8192x2048, .f32⟩) main_arg2) (TRef.of (T := ⟨S8192x2048, .f32⟩) main_call2_v0) mulf,
    TRef.nullary (TRef.of (T := ⟨S_, .f32⟩) main_call2_cst) (constant S_ .f32 0x00000000#32),
    TRef.binary (TRef.of (T := ⟨S8192x2048, .f32⟩) main_call2_v0) (TRef.of (T := ⟨S_, .f32⟩) main_call2_cst) (TRef.of (T := ⟨S8192, .f32⟩) main_call2_v1) (fun x v => Host.reduceAdd x v reducesTo_S8192x2048_S8192_d1 h_S_),
    TRef.unary (TRef.of (T := ⟨S8192, .f32⟩) main_call2_v1) (TRef.of (T := ⟨S8192x1, .f32⟩) main_call2_v2) (broadcastInDim S8192x1 ![0] bcast_S8192_S8192x1_0),
    TRef.unary (TRef.of (T := ⟨S8192x1, .f32⟩) main_call2_v2) (TRef.of (T := ⟨S8192x1, .f32⟩) main_v25) Host.sqrt,
    nullary main_cst_8 (constant S_ .f32 0x2B8CBCCC#32),
    unary main_cst_8 main_v26 (broadcastInDim S8192x1 ![] bcast_S_S8192x1 : (⟨S_, .f32⟩ : BufTy).Contents (Elt F) → (⟨S8192x1, .f32⟩ : BufTy).Contents (Elt F)),
    binary main_v25 main_v26 main_v27 (maximumf : (⟨S8192x1, .f32⟩ : BufTy).Contents (Elt F) → (⟨S8192x1, .f32⟩ : BufTy).Contents (Elt F) → (⟨S8192x1, .f32⟩ : BufTy).Contents (Elt F)),
    unary main_v27 main_v28 (broadcastInDim S8192x2048 ![0, 1] bcast_S8192x1_S8192x2048_0_1 : (⟨S8192x1, .f32⟩ : BufTy).Contents (Elt F) → (⟨S8192x2048, .f32⟩ : BufTy).Contents (Elt F)),
    binary main_arg2 main_v28 main_v29 (Host.divf : (⟨S8192x2048, .f32⟩ : BufTy).Contents (Elt F) → (⟨S8192x2048, .f32⟩ : BufTy).Contents (Elt F) → (⟨S8192x2048, .f32⟩ : BufTy).Contents (Elt F)),
    unary main_v24 main_v30 (broadcastInDim S8192x2048 ![0, 1] bcast_S1x2048_S8192x2048_0_1 : (⟨S1x2048, .f32⟩ : BufTy).Contents (Elt F) → (⟨S8192x2048, .f32⟩ : BufTy).Contents (Elt F)),
    binary main_v29 main_v30 main_v31 (mulf : (⟨S8192x2048, .f32⟩ : BufTy).Contents (Elt F) → (⟨S8192x2048, .f32⟩ : BufTy).Contents (Elt F) → (⟨S8192x2048, .f32⟩ : BufTy).Contents (Elt F)),
    nullary main_cst_9 (constant S_ .f32 0x00000000#32),
    binary main_v31 main_cst_9 main_v32 ((fun x v => Host.reduceAdd x v reducesTo_S8192x2048_S8192_d1 h_S_) : (⟨S8192x2048, .f32⟩ : BufTy).Contents (Elt F) → (⟨S_, .f32⟩ : BufTy).Contents (Elt F) → (⟨S8192, .f32⟩ : BufTy).Contents (Elt F)),
    nullary main_cst_10 (constant S_ .f32 0xBF800000#32),
    TRef.unary (TRef.of (T := ⟨S_, .f32⟩) main_cst_10) (TRef.of (T := ⟨S_, .f32⟩) main_call3_v0) id,
    TRef.unary (TRef.of (T := ⟨S_, .f32⟩) main_call3_v0) (TRef.of (T := ⟨S8192, .f32⟩) main_call3_v1) (broadcastInDim S8192 ![] bcast_S_S8192),
    TRef.ternary (TRef.of (T := ⟨S8192, .i1⟩) main_arg4) (TRef.of (T := ⟨S8192, .f32⟩) main_v32) (TRef.of (T := ⟨S8192, .f32⟩) main_call3_v1) (TRef.of (T := ⟨S8192, .f32⟩) main_v33) select ]

/-- The operations of part 3 of the program, in order, those of a called function in the call's place. -/
abbrev part3 : List (HloOp τ sig (Elt F)) :=
  [ TRef.nullary (TRef.of (T := ⟨S8192, .i32⟩) main_call4_v0) (iotaInDim S8192 32 0),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S8192, .f32⟩) main_v33) (TRef.of (T := ⟨S8192, .i32⟩) main_call4_v0) (TRef.of (T := ⟨S_, .f32⟩) main_call4_cst) (TRef.of (T := ⟨S_, .i32⟩) main_call4_c) (TRef.of (T := ⟨S_, .f32⟩) main_call4_v1_0) (fun x y u v j => (Host.argReduce reducer_argmax_f32_i32 x y u v reducesTo_S8192_S_d0 h_S_ j).1),
    TRef.quaternary (TRef.of (T := ⟨S8192, .f32⟩) main_v33) (TRef.of (T := ⟨S8192, .i32⟩) main_call4_v0) (TRef.of (T := ⟨S_, .f32⟩) main_call4_cst) (TRef.of (T := ⟨S_, .i32⟩) main_call4_c) (TRef.of (T := ⟨S_, .i32⟩) main_v34) (fun x y u v j => (Host.argReduce reducer_argmax_f32_i32 x y u v reducesTo_S8192_S_d0 h_S_ j).2),
    nullary main_c (constantI S_ 32 0#32),
    binary main_v34 main_c main_v35 (cmpi .slt : (⟨S_, .i32⟩ : BufTy).Contents (Elt F) → (⟨S_, .i32⟩ : BufTy).Contents (Elt F) → (⟨S_, .i1⟩ : BufTy).Contents (Elt F)),
    nullary main_c_11 (constantI S_ 32 8192#32),
    binary main_v34 main_c_11 main_v36 (addi : (⟨S_, .i32⟩ : BufTy).Contents (Elt F) → (⟨S_, .i32⟩ : BufTy).Contents (Elt F) → (⟨S_, .i32⟩ : BufTy).Contents (Elt F)),
    ternary main_v35 main_v36 main_v34 main_v37 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v33 ![main_v37] ⟨S_, .i32⟩ main_v38 ((fun x i => Host.dynamicSlice S1 x (fun k => (i k (Shape.Idx.first h_S_)).toInt) sliceFits_S8192_S1) : (⟨S8192, .f32⟩ : BufTy).Contents (Elt F) → (Fin 1 → (⟨S_, .i32⟩ : BufTy).Contents (Elt F)) → (⟨S1, .f32⟩ : BufTy).Contents (Elt F)),
    reshape main_v38 main_v39 (rfl : (.f32 : EltTy) = .f32) shapeCasts_S1_S_,
    nullary main_c_12 (constantI S_ 32 0#32),
    binary main_v34 main_c_12 main_v40 (cmpi .slt : (⟨S_, .i32⟩ : BufTy).Contents (Elt F) → (⟨S_, .i32⟩ : BufTy).Contents (Elt F) → (⟨S_, .i1⟩ : BufTy).Contents (Elt F)),
    nullary main_c_13 (constantI S_ 32 8192#32),
    binary main_v34 main_c_13 main_v41 (addi : (⟨S_, .i32⟩ : BufTy).Contents (Elt F) → (⟨S_, .i32⟩ : BufTy).Contents (Elt F) → (⟨S_, .i32⟩ : BufTy).Contents (Elt F)),
    ternary main_v40 main_v41 main_v34 main_v42 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg3 ![main_v42] ⟨S_, .i32⟩ main_v43 ((fun x i => Host.dynamicSlice S1 x (fun k => (i k (Shape.Idx.first h_S_)).toInt) sliceFits_S8192_S1) : (⟨S8192, .f32⟩ : BufTy).Contents (Elt F) → (Fin 1 → (⟨S_, .i32⟩ : BufTy).Contents (Elt F)) → (⟨S1, .f32⟩ : BufTy).Contents (Elt F)),
    reshape main_v43 main_v44 (rfl : (.f32 : EltTy) = .f32) shapeCasts_S1_S_ ]

/-- The operations of part 4 of the program, in order, those of a called function in the call's place. -/
abbrev part4 : List (HloOp τ sig (Elt F)) :=
  [ unary main_v1 main_v45 (Host.negf : (⟨S_, .f32⟩ : BufTy).Contents (Elt F) → (⟨S_, .f32⟩ : BufTy).Contents (Elt F)),
    nullary main_cst_14 (constant S_ .f32 0x3F800000#32),
    binary main_cst_14 main_v44 main_v46 (subf : (⟨S_, .f32⟩ : BufTy).Contents (Elt F) → (⟨S_, .f32⟩ : BufTy).Contents (Elt F) → (⟨S_, .f32⟩ : BufTy).Contents (Elt F)),
    binary main_v45 main_v46 main_v47 (mulf : (⟨S_, .f32⟩ : BufTy).Contents (Elt F) → (⟨S_, .f32⟩ : BufTy).Contents (Elt F) → (⟨S_, .f32⟩ : BufTy).Contents (Elt F)),
    unary main_v47 main_v48 (Host.exp : (⟨S_, .f32⟩ : BufTy).Contents (Elt F) → (⟨S_, .f32⟩ : BufTy).Contents (Elt F)),
    unary main_v48 main_v49 (broadcastInDim S4x4096x2048 ![] bcast_S_S4x4096x2048 : (⟨S_, .f32⟩ : BufTy).Contents (Elt F) → (⟨S4x4096x2048, .f32⟩ : BufTy).Contents (Elt F)),
    binary main_v14 main_v49 main_v50 (mulf : (⟨S4x4096x2048, .f32⟩ : BufTy).Contents (Elt F) → (⟨S4x4096x2048, .f32⟩ : BufTy).Contents (Elt F) → (⟨S4x4096x2048, .f32⟩ : BufTy).Contents (Elt F)),
    nullary main_cst_15 (constant S_ .f32 0x3F59999A#32),
    binary main_v39 main_cst_15 main_v51 (cmpf .ogt : (⟨S_, .f32⟩ : BufTy).Contents (Elt F) → (⟨S_, .f32⟩ : BufTy).Contents (Elt F) → (⟨S_, .i1⟩ : BufTy).Contents (Elt F)),
    nullary main_cst_16 (constant S_ .f32 0x3F000000#32),
    nullary main_cst_17 (constant S_ .f32 0x3F800000#32),
    TRef.ternary (TRef.of (T := ⟨S_, .i1⟩) main_v51) (TRef.of (T := ⟨S_, .f32⟩) main_cst_16) (TRef.of (T := ⟨S_, .f32⟩) main_cst_17) (TRef.of (T := ⟨S_, .f32⟩) main_v52) select,
    unary main_v52 main_v53 (id : (⟨S_, .f32⟩ : BufTy).Contents (Elt F) → (⟨S_, .f32⟩ : BufTy).Contents (Elt F)),
    binary main_v44 main_v53 main_v54 (mulf : (⟨S_, .f32⟩ : BufTy).Contents (Elt F) → (⟨S_, .f32⟩ : BufTy).Contents (Elt F) → (⟨S_, .f32⟩ : BufTy).Contents (Elt F)),
    nullary main_c_18 (constantI S_ 32 0#32),
    binary main_v34 main_c_18 main_v55 (cmpi .slt : (⟨S_, .i32⟩ : BufTy).Contents (Elt F) → (⟨S_, .i32⟩ : BufTy).Contents (Elt F) → (⟨S_, .i1⟩ : BufTy).Contents (Elt F)),
    nullary main_c_19 (constantI S_ 32 8192#32),
    binary main_v34 main_c_19 main_v56 (addi : (⟨S_, .i32⟩ : BufTy).Contents (Elt F) → (⟨S_, .i32⟩ : BufTy).Contents (Elt F) → (⟨S_, .i32⟩ : BufTy).Contents (Elt F)),
    ternary main_v55 main_v56 main_v34 main_v57 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v57 main_v58 (broadcastInDim S1 ![] bcast_S_S1 : (⟨S_, .i32⟩ : BufTy).Contents (Elt F) → (⟨S1, .i32⟩ : BufTy).Contents (Elt F)),
    ternary main_arg3 main_v58 main_v54 main_v59 ((fun x i u => Host.scatter scatter_S8192_S1_S__n_0_0_0 (fun _ b => b) x i u) : (⟨S8192, .f32⟩ : BufTy).Contents (Elt F) → (⟨S1, .i32⟩ : BufTy).Contents (Elt F) → (⟨S_, .f32⟩ : BufTy).Contents (Elt F) → (⟨S8192, .f32⟩ : BufTy).Contents (Elt F)),
    TRef.binary (TRef.of (T := ⟨S2048, .f32⟩) main_v18) (TRef.of (T := ⟨S2048, .f32⟩) main_v18) (TRef.of (T := ⟨S2048, .f32⟩) main_call6_v0) mulf,
    TRef.nullary (TRef.of (T := ⟨S_, .f32⟩) main_call6_cst) (constant S_ .f32 0x00000000#32),
    TRef.binary (TRef.of (T := ⟨S2048, .f32⟩) main_call6_v0) (TRef.of (T := ⟨S_, .f32⟩) main_call6_cst) (TRef.of (T := ⟨S_, .f32⟩) main_call6_v1) (fun x v => Host.reduceAdd x v reducesTo_S2048_S_d0 h_S_),
    TRef.unary (TRef.of (T := ⟨S_, .f32⟩) main_call6_v1) (TRef.of (T := ⟨S1, .f32⟩) main_call6_v2) (broadcastInDim S1 ![] bcast_S_S1),
    TRef.unary (TRef.of (T := ⟨S1, .f32⟩) main_call6_v2) (TRef.of (T := ⟨S1, .f32⟩) main_v60) Host.sqrt,
    nullary main_cst_20 (constant S_ .f32 0x2B8CBCCC#32),
    unary main_cst_20 main_v61 (broadcastInDim S1 ![] bcast_S_S1 : (⟨S_, .f32⟩ : BufTy).Contents (Elt F) → (⟨S1, .f32⟩ : BufTy).Contents (Elt F)),
    binary main_v60 main_v61 main_v62 (maximumf : (⟨S1, .f32⟩ : BufTy).Contents (Elt F) → (⟨S1, .f32⟩ : BufTy).Contents (Elt F) → (⟨S1, .f32⟩ : BufTy).Contents (Elt F)),
    unary main_v62 main_v63 (broadcastInDim S2048 ![0] bcast_S1_S2048_0 : (⟨S1, .f32⟩ : BufTy).Contents (Elt F) → (⟨S2048, .f32⟩ : BufTy).Contents (Elt F)),
    binary main_v18 main_v63 main_v64 (Host.divf : (⟨S2048, .f32⟩ : BufTy).Contents (Elt F) → (⟨S2048, .f32⟩ : BufTy).Contents (Elt F) → (⟨S2048, .f32⟩ : BufTy).Contents (Elt F)),
    nullary main_c_21 (constantI S_ 32 0#32),
    binary main_arg5 main_c_21 main_v65 (cmpi .slt : (⟨S_, .i32⟩ : BufTy).Contents (Elt F) → (⟨S_, .i32⟩ : BufTy).Contents (Elt F) → (⟨S_, .i1⟩ : BufTy).Contents (Elt F)),
    nullary main_c_22 (constantI S_ 32 8192#32),
    binary main_arg5 main_c_22 main_v66 (addi : (⟨S_, .i32⟩ : BufTy).Contents (Elt F) → (⟨S_, .i32⟩ : BufTy).Contents (Elt F) → (⟨S_, .i32⟩ : BufTy).Contents (Elt F)),
    ternary main_v65 main_v66 main_arg5 main_v67 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v67 main_v68 (broadcastInDim S1 ![] bcast_S_S1 : (⟨S_, .i32⟩ : BufTy).Contents (Elt F) → (⟨S1, .i32⟩ : BufTy).Contents (Elt F)),
    ternary main_arg2 main_v68 main_v64 main_v69 ((fun x i u => Host.scatter scatter_S8192x2048_S1_S2048_0_0_0_0 (fun _ b => b) x i u) : (⟨S8192x2048, .f32⟩ : BufTy).Contents (Elt F) → (⟨S1, .i32⟩ : BufTy).Contents (Elt F) → (⟨S2048, .f32⟩ : BufTy).Contents (Elt F) → (⟨S8192x2048, .f32⟩ : BufTy).Contents (Elt F)),
    nullary main_c_23 (constantI S_ 32 0#32),
    binary main_arg5 main_c_23 main_v70 (cmpi .slt : (⟨S_, .i32⟩ : BufTy).Contents (Elt F) → (⟨S_, .i32⟩ : BufTy).Contents (Elt F) → (⟨S_, .i1⟩ : BufTy).Contents (Elt F)),
    nullary main_c_24 (constantI S_ 32 8192#32),
    binary main_arg5 main_c_24 main_v71 (addi : (⟨S_, .i32⟩ : BufTy).Contents (Elt F) → (⟨S_, .i32⟩ : BufTy).Contents (Elt F) → (⟨S_, .i32⟩ : BufTy).Contents (Elt F)),
    ternary main_v70 main_v71 main_arg5 main_v72 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v72 main_v73 (broadcastInDim S1 ![] bcast_S_S1 : (⟨S_, .i32⟩ : BufTy).Contents (Elt F) → (⟨S1, .i32⟩ : BufTy).Contents (Elt F)),
    nullary main_cst_25 (constant S_ .f32 0x3F800000#32),
    ternary main_v59 main_v73 main_cst_25 main_v74 ((fun x i u => Host.scatter scatter_S8192_S1_S__n_0_0_0 (fun _ b => b) x i u) : (⟨S8192, .f32⟩ : BufTy).Contents (Elt F) → (⟨S1, .i32⟩ : BufTy).Contents (Elt F) → (⟨S_, .f32⟩ : BufTy).Contents (Elt F) → (⟨S8192, .f32⟩ : BufTy).Contents (Elt F)),
    nullary main_c_26 (constantI S_ 32 0#32),
    binary main_arg5 main_c_26 main_v75 (cmpi .slt : (⟨S_, .i32⟩ : BufTy).Contents (Elt F) → (⟨S_, .i32⟩ : BufTy).Contents (Elt F) → (⟨S_, .i1⟩ : BufTy).Contents (Elt F)),
    nullary main_c_27 (constantI S_ 32 8192#32),
    binary main_arg5 main_c_27 main_v76 (addi : (⟨S_, .i32⟩ : BufTy).Contents (Elt F) → (⟨S_, .i32⟩ : BufTy).Contents (Elt F) → (⟨S_, .i32⟩ : BufTy).Contents (Elt F)),
    ternary main_v75 main_v76 main_arg5 main_v77 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_v77 main_v78 (broadcastInDim S1 ![] bcast_S_S1 : (⟨S_, .i32⟩ : BufTy).Contents (Elt F) → (⟨S1, .i32⟩ : BufTy).Contents (Elt F)),
    nullary main_c_28 (constantI S_ 1 1#1),
    ternary main_arg4 main_v78 main_c_28 main_v79 ((fun x i u => Host.scatter scatter_S8192_S1_S__n_0_0_0 (fun _ b => b) x i u) : (⟨S8192, .i1⟩ : BufTy).Contents (Elt F) → (⟨S1, .i32⟩ : BufTy).Contents (Elt F) → (⟨S_, .i1⟩ : BufTy).Contents (Elt F) → (⟨S8192, .i1⟩ : BufTy).Contents (Elt F)) ]

/-- The operations of the program. -/
abbrev ops : List (HloOp τ sig (Elt F)) := part1 ++ (part2 ++ (part3 ++ part4))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., nullary_bufs_sub .., unary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., binary_bufs_sub .., reshape_bufs_sub .., nullary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., binary_bufs_sub .., nullary_bufs_sub .., unary_bufs_sub .., unary_bufs_sub .., ternary_bufs_sub .., nullary_bufs_sub .., nullary_bufs_sub .., nullary_bufs_sub .., quaternary_bufs_sub .., quaternary_bufs_sub .., nullary_bufs_sub .., binary_bufs_sub .., nullary_bufs_sub .., binary_bufs_sub .., ternary_bufs_sub .., unaryIndexed_bufs_sub .., reshape_bufs_sub .., nullary_bufs_sub .., binary_bufs_sub .., nullary_bufs_sub .., binary_bufs_sub .., ternary_bufs_sub .., unaryIndexed_bufs_sub .., reshape_bufs_sub .., unary_bufs_sub .., nullary_bufs_sub .., binary_bufs_sub .., binary_bufs_sub .., unary_bufs_sub .., unary_bufs_sub .., binary_bufs_sub .., nullary_bufs_sub .., binary_bufs_sub .., nullary_bufs_sub .., nullary_bufs_sub .., ternary_bufs_sub .., unary_bufs_sub .., binary_bufs_sub .., nullary_bufs_sub .., binary_bufs_sub .., nullary_bufs_sub .., binary_bufs_sub .., ternary_bufs_sub .., unary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., binary_bufs_sub .., nullary_bufs_sub .., binary_bufs_sub .., ternary_bufs_sub .., unary_bufs_sub .., ternary_bufs_sub .., nullary_bufs_sub .., binary_bufs_sub .., nullary_bufs_sub .., binary_bufs_sub .., ternary_bufs_sub .., unary_bufs_sub .., nullary_bufs_sub .., ternary_bufs_sub .., nullary_bufs_sub .., binary_bufs_sub .., nullary_bufs_sub .., binary_bufs_sub .., ternary_bufs_sub .., unary_bufs_sub .., nullary_bufs_sub .., ternary_bufs_sub ..⟩

/-- The gate's factor: the exponential of the logarithm, between 0.1 and 8. -/
def clipV (lk : (⟨S_, .f32⟩ : BufTy).Contents (Elt F)) : (⟨S_, .f32⟩ : BufTy).Contents (Elt F) := minimumf (constant S_ .f32 0x41000000#32) (maximumf (constant S_ .f32 0x3DCCCCCD#32) (Host.exp lk))
/-- The activation (the gelu by the hyperbolic tangent) of every element. -/
def yV (x : (⟨S4x4096x2048, .f32⟩ : BufTy).Contents (Elt F)) : (⟨S4x4096x2048, .f32⟩ : BufTy).Contents (Elt F) :=
  mulf (mulf (broadcastInDim S4x4096x2048 ![] bcast_S_S4x4096x2048 (constant S_ .f32 0x3F000000#32)) x)
    (addf (broadcastInDim S4x4096x2048 ![] bcast_S_S4x4096x2048 (constant S_ .f32 0x3F800000#32))
      (Host.tanh (mulf (broadcastInDim S4x4096x2048 ![] bcast_S_S4x4096x2048 (constant S_ .f32 0x3F4C422A#32))
        (addf x (mulf (broadcastInDim S4x4096x2048 ![] bcast_S_S4x4096x2048 (constant S_ .f32 0x3D372713#32)) (mulf (mulf x x) x))))))
/-- The mean activation over all rows. -/
def meanV (x : (⟨S4x4096x2048, .f32⟩ : BufTy).Contents (Elt F)) : (⟨S2048, .f32⟩ : BufTy).Contents (Elt F) :=
  Host.divf (Host.reduceAdd (shapeCast _ (yV x) shapeCasts_S4x4096x2048_S16384x2048) (constant S_ .f32 0x00000000#32) reducesTo_S16384x2048_S2048_d0 h_S_)
    (broadcastInDim S2048 ![] bcast_S_S2048 (constant S_ .f32 0x46800000#32))
/-- A vector as a row. -/
def rowV (s : (⟨S2048, .f32⟩ : BufTy).Contents (Elt F)) : (⟨S1x2048, .f32⟩ : BufTy).Contents (Elt F) := broadcastInDim S1x2048 ![1] bcast_S2048_S1x2048_1 s
/-- The row of a vector divided by its norm. -/
def dirV (s : (⟨S2048, .f32⟩ : BufTy).Contents (Elt F)) : (⟨S1x2048, .f32⟩ : BufTy).Contents (Elt F) :=
  Host.divf (rowV s) (broadcastInDim S1x2048 ![0, 1] bcast_S1x1_S1x2048_0_1
    (maximumf (Host.sqrt (broadcastInDim S1x1 ![0] bcast_S1_S1x1_0 (Host.reduceAdd (mulf (rowV s) (rowV s)) (constant S_ .f32 0x00000000#32) reducesTo_S1x2048_S1_d1 h_S_)))
      (broadcastInDim S1x1 ![] bcast_S_S1x1 (constant S_ .f32 0x2B8CBCCC#32))))
/-- Every row of the buffer divided by its norm. -/
def bufnV (b : (⟨S8192x2048, .f32⟩ : BufTy).Contents (Elt F)) : (⟨S8192x2048, .f32⟩ : BufTy).Contents (Elt F) :=
  Host.divf b (broadcastInDim S8192x2048 ![0, 1] bcast_S8192x1_S8192x2048_0_1
    (maximumf (Host.sqrt (broadcastInDim S8192x1 ![0] bcast_S8192_S8192x1_0 (Host.reduceAdd (mulf b b) (constant S_ .f32 0x00000000#32) reducesTo_S8192x2048_S8192_d1 h_S_)))
      (broadcastInDim S8192x1 ![] bcast_S_S8192x1 (constant S_ .f32 0x2B8CBCCC#32))))
/-- The product of every row with the direction of a vector. -/
def dotV (s : (⟨S2048, .f32⟩ : BufTy).Contents (Elt F)) (b : (⟨S8192x2048, .f32⟩ : BufTy).Contents (Elt F)) : (⟨S8192, .f32⟩ : BufTy).Contents (Elt F) :=
  Host.reduceAdd (mulf (bufnV b) (broadcastInDim S8192x2048 ![0, 1] bcast_S1x2048_S8192x2048_0_1 (dirV s))) (constant S_ .f32 0x00000000#32) reducesTo_S8192x2048_S8192_d1 h_S_
/-- The same where the mask holds, and −1 elsewhere. -/
def simV (s : (⟨S2048, .f32⟩ : BufTy).Contents (Elt F)) (b : (⟨S8192x2048, .f32⟩ : BufTy).Contents (Elt F)) (k : (⟨S8192, .i1⟩ : BufTy).Contents (Elt F)) : (⟨S8192, .f32⟩ : BufTy).Contents (Elt F) :=
  select k (dotV s b) (broadcastInDim S8192 ![] bcast_S_S8192 (id (constant S_ .f32 0xBF800000#32)))
/-- Where the largest element of an array stands. -/
def argV (v : (⟨S8192, .f32⟩ : BufTy).Contents (Elt F)) : (⟨S_, .i32⟩ : BufTy).Contents (Elt F) := fun j =>
  (Host.argReduce reducer_argmax_f32_i32 v (iotaInDim S8192 32 0) (constant S_ .f32 0xFF800000#32) (constantI S_ 32 0#32) reducesTo_S8192_S_d0 h_S_ j).2
/-- An index with 8192 added where it is negative. -/
def wrapV (p : (⟨S_, .i32⟩ : BufTy).Contents (Elt F)) : (⟨S_, .i32⟩ : BufTy).Contents (Elt F) := select (cmpi .slt p (constantI S_ 32 0#32)) (addi p (constantI S_ 32 8192#32)) p
/-- The element of an array at an index. -/
def atV (v : (⟨S8192, .f32⟩ : BufTy).Contents (Elt F)) (p : (⟨S_, .i32⟩ : BufTy).Contents (Elt F)) : (⟨S_, .f32⟩ : BufTy).Contents (Elt F) :=
  shapeCast _ (Host.dynamicSlice S1 v (fun k => ((![wrapV p] : Fin 1 → S_.Idx → BitVec 32) k (Shape.Idx.first h_S_)).toInt) sliceFits_S8192_S1) shapeCasts_S1_S_
/-- The gate: what the output is scaled by. -/
def gateV (a : (⟨S_, .f32⟩ : BufTy).Contents (Elt F)) (l : (⟨S_, .f32⟩ : BufTy).Contents (Elt F)) : (⟨S_, .f32⟩ : BufTy).Contents (Elt F) :=
  Host.exp (mulf (Host.negf a) (subf (constant S_ .f32 0x3F800000#32) l))
/-- The first result: the activation scaled by the gate. -/
def out0 (x : (⟨S4x4096x2048, .f32⟩ : BufTy).Contents (Elt F)) (lk : (⟨S_, .f32⟩ : BufTy).Contents (Elt F)) (b : (⟨S8192x2048, .f32⟩ : BufTy).Contents (Elt F)) (d : (⟨S8192, .f32⟩ : BufTy).Contents (Elt F)) (k : (⟨S8192, .i1⟩ : BufTy).Contents (Elt F)) : (⟨S4x4096x2048, .f32⟩ : BufTy).Contents (Elt F) :=
  mulf (yV x) (broadcastInDim S4x4096x2048 ![] bcast_S_S4x4096x2048 (gateV (clipV lk) (atV d (argV (simV (meanV x) b k)))))
/-- A vector divided by its norm. -/
def mcV (s : (⟨S2048, .f32⟩ : BufTy).Contents (Elt F)) : (⟨S2048, .f32⟩ : BufTy).Contents (Elt F) :=
  Host.divf s (broadcastInDim S2048 ![0] bcast_S1_S2048_0
    (maximumf (Host.sqrt (broadcastInDim S1 ![] bcast_S_S1 (Host.reduceAdd (mulf s s) (constant S_ .f32 0x00000000#32) reducesTo_S2048_S_d0 h_S_)))
      (broadcastInDim S1 ![] bcast_S_S1 (constant S_ .f32 0x2B8CBCCC#32))))
/-- The second result: the buffer with one row set. -/
def out1 (x : (⟨S4x4096x2048, .f32⟩ : BufTy).Contents (Elt F)) (b : (⟨S8192x2048, .f32⟩ : BufTy).Contents (Elt F)) (p : (⟨S_, .i32⟩ : BufTy).Contents (Elt F)) : (⟨S8192x2048, .f32⟩ : BufTy).Contents (Elt F) :=
  Host.scatter scatter_S8192x2048_S1_S2048_0_0_0_0 (fun _ b => b) b (broadcastInDim S1 ![] bcast_S_S1 (wrapV p)) (mcV (meanV x))
/-- An array with one element set. -/
def setV {α : Type} (v : S8192.Idx → α) (p : (⟨S_, .i32⟩ : BufTy).Contents (Elt F)) (u : S_.Idx → α) : S8192.Idx → α :=
  Host.scatter scatter_S8192_S1_S__n_0_0_0 (fun _ b => b) v (broadcastInDim S1 ![] bcast_S_S1 (wrapV p)) u
/-- A level, halved where a row is close. -/
def decV (g : (⟨S_, .f32⟩ : BufTy).Contents (Elt F)) (l : (⟨S_, .f32⟩ : BufTy).Contents (Elt F)) : (⟨S_, .f32⟩ : BufTy).Contents (Elt F) :=
  mulf l (id (select (cmpf .ogt g (constant S_ .f32 0x3F59999A#32)) (constant S_ .f32 0x3F000000#32) (constant S_ .f32 0x3F800000#32)))
/-- The third result: the levels with two elements set. -/
def out2 (x : (⟨S4x4096x2048, .f32⟩ : BufTy).Contents (Elt F)) (b : (⟨S8192x2048, .f32⟩ : BufTy).Contents (Elt F)) (d : (⟨S8192, .f32⟩ : BufTy).Contents (Elt F)) (k : (⟨S8192, .i1⟩ : BufTy).Contents (Elt F)) (p : (⟨S_, .i32⟩ : BufTy).Contents (Elt F)) : (⟨S8192, .f32⟩ : BufTy).Contents (Elt F) :=
  setV (setV d (argV (simV (meanV x) b k)) (decV (atV (simV (meanV x) b k) (argV (simV (meanV x) b k))) (atV d (argV (simV (meanV x) b k))))) p (constant S_ .f32 0x3F800000#32)
/-- The fourth result: the mask with one element set. -/
def out3 (k : (⟨S8192, .i1⟩ : BufTy).Contents (Elt F)) (p : (⟨S_, .i32⟩ : BufTy).Contents (Elt F)) : (⟨S8192, .i1⟩ : BufTy).Contents (Elt F) := setV k p (constantI S_ 1 1#1)

set_option maxRecDepth 8192 in
theorem kept1 (V : Valuation τ sig (Elt F)) {r : Ref sig .tc} (h : r ∉ [main_v0, main_cst, main_cst_0, main_call0_v0, main_call0_v1, main_call0_v2, main_v1, main_cst_1, main_v2, main_v3, main_v4, main_v5, main_cst_2, main_v6, main_v7, main_v8, main_cst_3, main_v9, main_v10, main_v11, main_cst_4, main_v12, main_v13, main_v14, main_v15, main_cst_5, main_v16, main_cst_6, main_v17, main_v18]) :
    after part1 V (Proc.devRef .tc r) = V (Proc.devRef .tc r) :=
  after_unwritten (ops := part1) _ rfl h V

set_option maxRecDepth 8192 in
theorem kept2 (V : Valuation τ sig (Elt F)) {r : Ref sig .tc} (h : r ∉ [main_v19, main_call1_v0, main_call1_cst, main_call1_v1, main_call1_v2, main_v20, main_cst_7, main_v21, main_v22, main_v23, main_v24, main_call2_v0, main_call2_cst, main_call2_v1, main_call2_v2, main_v25, main_cst_8, main_v26, main_v27, main_v28, main_v29, main_v30, main_v31, main_cst_9, main_v32, main_cst_10, main_call3_v0, main_call3_v1, main_v33]) :
    after part2 V (Proc.devRef .tc r) = V (Proc.devRef .tc r) :=
  after_unwritten (ops := part2) _ rfl h V

set_option maxRecDepth 8192 in
theorem kept3 (V : Valuation τ sig (Elt F)) {r : Ref sig .tc} (h : r ∉ [main_call4_v0, main_call4_cst, main_call4_c, main_call4_v1_0, main_v34, main_c, main_v35, main_c_11, main_v36, main_v37, main_v38, main_v39, main_c_12, main_v40, main_c_13, main_v41, main_v42, main_v43, main_v44]) :
    after part3 V (Proc.devRef .tc r) = V (Proc.devRef .tc r) :=
  after_unwritten (ops := part3) _ rfl h V

set_option maxRecDepth 8192 in
theorem kept4 (V : Valuation τ sig (Elt F)) {r : Ref sig .tc} (h : r ∉ [main_v45, main_cst_14, main_v46, main_v47, main_v48, main_v49, main_v50, main_cst_15, main_v51, main_cst_16, main_cst_17, main_v52, main_v53, main_v54, main_c_18, main_v55, main_c_19, main_v56, main_v57, main_v58, main_v59, main_call6_v0, main_call6_cst, main_call6_v1, main_call6_v2, main_v60, main_cst_20, main_v61, main_v62, main_v63, main_v64, main_c_21, main_v65, main_c_22, main_v66, main_v67, main_v68, main_v69, main_c_23, main_v70, main_c_24, main_v71, main_v72, main_v73, main_cst_25, main_v74, main_c_26, main_v75, main_c_27, main_v76, main_v77, main_v78, main_c_28, main_v79]) :
    after part4 V (Proc.devRef .tc r) = V (Proc.devRef .tc r) :=
  after_unwritten (ops := part4) _ rfl h V

set_option maxRecDepth 8192 in
set_option maxHeartbeats 4000000 in
theorem after1_v1 (V : Valuation τ sig (Elt F)) : after part1 V (Proc.devRef .tc main_v1) = clipV (V (Proc.devRef .tc main_arg1)) := by
  simp only [part1, TRef.binary, TRef.nullary, TRef.ternary, TRef.unary, TRef.quaternary, TRef.toBuf, TRef.ofBuf, cast_eq]
  after_results_simp_entrywise
  all_goals rfl

set_option maxRecDepth 8192 in
set_option maxHeartbeats 4000000 in
theorem after1_v14 (V : Valuation τ sig (Elt F)) : after part1 V (Proc.devRef .tc main_v14) = yV (V (Proc.devRef .tc main_arg0)) := by
  simp only [part1, TRef.binary, TRef.nullary, TRef.ternary, TRef.unary, TRef.quaternary, TRef.toBuf, TRef.ofBuf, cast_eq]
  after_results_simp_entrywise
  all_goals rfl

set_option maxRecDepth 8192 in
set_option maxHeartbeats 4000000 in
theorem after1_v18 (V : Valuation τ sig (Elt F)) : after part1 V (Proc.devRef .tc main_v18) = meanV (V (Proc.devRef .tc main_arg0)) := by
  simp only [part1, TRef.binary, TRef.nullary, TRef.ternary, TRef.unary, TRef.quaternary, TRef.toBuf, TRef.ofBuf, cast_eq]
  after_results_simp_entrywise
  all_goals rfl

set_option maxRecDepth 8192 in
set_option maxHeartbeats 4000000 in
theorem after2_v33 (V : Valuation τ sig (Elt F)) : after part2 V (Proc.devRef .tc main_v33) = simV (V (Proc.devRef .tc main_v18)) (V (Proc.devRef .tc main_arg2)) (V (Proc.devRef .tc main_arg4)) := by
  simp only [part2, TRef.binary, TRef.nullary, TRef.ternary, TRef.unary, TRef.quaternary, TRef.toBuf, TRef.ofBuf, cast_eq]
  after_results_simp_entrywise
  all_goals rfl

set_option maxRecDepth 8192 in
set_option maxHeartbeats 4000000 in
theorem after3_v34 (V : Valuation τ sig (Elt F)) : after part3 V (Proc.devRef .tc main_v34) = argV (V (Proc.devRef .tc main_v33)) := by
  simp only [part3, TRef.binary, TRef.nullary, TRef.ternary, TRef.unary, TRef.quaternary, TRef.toBuf, TRef.ofBuf, cast_eq]
  after_results_simp_entrywise
  all_goals rfl

set_option maxRecDepth 8192 in
set_option maxHeartbeats 4000000 in
theorem after3_v39 (V : Valuation τ sig (Elt F)) : after part3 V (Proc.devRef .tc main_v39) = atV (V (Proc.devRef .tc main_v33)) (argV (V (Proc.devRef .tc main_v33))) := by
  simp only [part3, TRef.binary, TRef.nullary, TRef.ternary, TRef.unary, TRef.quaternary, TRef.toBuf, TRef.ofBuf, cast_eq]
  after_results_simp_entrywise
  all_goals rfl

set_option maxRecDepth 8192 in
set_option maxHeartbeats 4000000 in
theorem after3_v44 (V : Valuation τ sig (Elt F)) : after part3 V (Proc.devRef .tc main_v44) = atV (V (Proc.devRef .tc main_arg3)) (argV (V (Proc.devRef .tc main_v33))) := by
  simp only [part3, TRef.binary, TRef.nullary, TRef.ternary, TRef.unary, TRef.quaternary, TRef.toBuf, TRef.ofBuf, cast_eq]
  after_results_simp_entrywise
  all_goals rfl

set_option maxRecDepth 8192 in
set_option maxHeartbeats 4000000 in
theorem after4_v50 (V : Valuation τ sig (Elt F)) : after part4 V (Proc.devRef .tc main_v50) = mulf (V (Proc.devRef .tc main_v14)) (broadcastInDim S4x4096x2048 ![] bcast_S_S4x4096x2048 (gateV (V (Proc.devRef .tc main_v1)) (V (Proc.devRef .tc main_v44)))) := by
  simp only [part4, TRef.binary, TRef.nullary, TRef.ternary, TRef.unary, TRef.quaternary, TRef.toBuf, TRef.ofBuf, cast_eq]
  after_results_simp_entrywise
  all_goals rfl

set_option maxRecDepth 8192 in
set_option maxHeartbeats 4000000 in
theorem after4_v69 (V : Valuation τ sig (Elt F)) : after part4 V (Proc.devRef .tc main_v69) = Host.scatter scatter_S8192x2048_S1_S2048_0_0_0_0 (fun _ b => b) (V (Proc.devRef .tc main_arg2)) (broadcastInDim S1 ![] bcast_S_S1 (wrapV (V (Proc.devRef .tc main_arg5)))) (mcV (V (Proc.devRef .tc main_v18))) := by
  simp only [part4, TRef.binary, TRef.nullary, TRef.ternary, TRef.unary, TRef.quaternary, TRef.toBuf, TRef.ofBuf, cast_eq]
  after_results_simp_entrywise
  all_goals rfl

set_option maxRecDepth 8192 in
set_option maxHeartbeats 4000000 in
theorem after4_v74 (V : Valuation τ sig (Elt F)) : after part4 V (Proc.devRef .tc main_v74) = setV (setV (V (Proc.devRef .tc main_arg3)) (V (Proc.devRef .tc main_v34)) (decV (V (Proc.devRef .tc main_v39)) (V (Proc.devRef .tc main_v44)))) (V (Proc.devRef .tc main_arg5)) (constant S_ .f32 0x3F800000#32) := by
  simp only [part4, TRef.binary, TRef.nullary, TRef.ternary, TRef.unary, TRef.quaternary, TRef.toBuf, TRef.ofBuf, cast_eq]
  after_results_simp_entrywise
  all_goals rfl

set_option maxRecDepth 8192 in
set_option maxHeartbeats 4000000 in
theorem after4_v79 (V : Valuation τ sig (Elt F)) : after part4 V (Proc.devRef .tc main_v79) = setV (V (Proc.devRef .tc main_arg4)) (V (Proc.devRef .tc main_arg5)) (constantI S_ 1 1#1) := by
  simp only [part4, TRef.binary, TRef.nullary, TRef.ternary, TRef.unary, TRef.quaternary, TRef.toBuf, TRef.ofBuf, cast_eq]
  after_results_simp_entrywise
  all_goals rfl

theorem after_app (a b : List (HloOp τ sig (Elt F))) (V : Valuation τ sig (Elt F)) : after (a ++ b) V = after b (after a V) := by
  induction a generalizing V with
  | nil => rfl
  | cons o l h => exact h _

/-- An argument keeps its contents. -/
theorem kept (V : Valuation τ sig (Elt F)) {r : Ref sig .tc} (h1 : r ∉ [main_v0, main_cst, main_cst_0, main_call0_v0, main_call0_v1, main_call0_v2, main_v1, main_cst_1, main_v2, main_v3, main_v4, main_v5, main_cst_2, main_v6, main_v7, main_v8, main_cst_3, main_v9, main_v10, main_v11, main_cst_4, main_v12, main_v13, main_v14, main_v15, main_cst_5, main_v16, main_cst_6, main_v17, main_v18]) (h2 : r ∉ [main_v19, main_call1_v0, main_call1_cst, main_call1_v1, main_call1_v2, main_v20, main_cst_7, main_v21, main_v22, main_v23, main_v24, main_call2_v0, main_call2_cst, main_call2_v1, main_call2_v2, main_v25, main_cst_8, main_v26, main_v27, main_v28, main_v29, main_v30, main_v31, main_cst_9, main_v32, main_cst_10, main_call3_v0, main_call3_v1, main_v33])
    (h3 : r ∉ [main_call4_v0, main_call4_cst, main_call4_c, main_call4_v1_0, main_v34, main_c, main_v35, main_c_11, main_v36, main_v37, main_v38, main_v39, main_c_12, main_v40, main_c_13, main_v41, main_v42, main_v43, main_v44]) (h4 : r ∉ [main_v45, main_cst_14, main_v46, main_v47, main_v48, main_v49, main_v50, main_cst_15, main_v51, main_cst_16, main_cst_17, main_v52, main_v53, main_v54, main_c_18, main_v55, main_c_19, main_v56, main_v57, main_v58, main_v59, main_call6_v0, main_call6_cst, main_call6_v1, main_call6_v2, main_v60, main_cst_20, main_v61, main_v62, main_v63, main_v64, main_c_21, main_v65, main_c_22, main_v66, main_v67, main_v68, main_v69, main_c_23, main_v70, main_c_24, main_v71, main_v72, main_v73, main_cst_25, main_v74, main_c_26, main_v75, main_c_27, main_v76, main_v77, main_v78, main_c_28, main_v79]) : after ops V (Proc.devRef .tc r) = V (Proc.devRef .tc r) := by
  rw [ops, after_app, after_app, after_app, kept4 _ h4, kept3 _ h3, kept2 _ h2, kept1 _ h1]

theorem final_v50 (V : Valuation τ sig (Elt F)) : after ops V (Proc.devRef .tc main_v50) = out0 (V (Proc.devRef .tc main_arg0)) (V (Proc.devRef .tc main_arg1)) (V (Proc.devRef .tc main_arg2)) (V (Proc.devRef .tc main_arg3)) (V (Proc.devRef .tc main_arg4)) := by
  rw [ops, after_app, after_app, after_app, after4_v50, kept3 _ (r := main_v14) (by decide), kept2 _ (r := main_v14) (by decide), after1_v14, kept3 _ (r := main_v1) (by decide), kept2 _ (r := main_v1) (by decide), after1_v1, after3_v44, kept2 _ (r := main_arg3) (by decide), kept1 _ (r := main_arg3) (by decide), after2_v33, after1_v18, kept1 _ (r := main_arg2) (by decide), kept1 _ (r := main_arg4) (by decide)]
  rfl

theorem final_v69 (V : Valuation τ sig (Elt F)) : after ops V (Proc.devRef .tc main_v69) = out1 (V (Proc.devRef .tc main_arg0)) (V (Proc.devRef .tc main_arg2)) (V (Proc.devRef .tc main_arg5)) := by
  rw [ops, after_app, after_app, after_app, after4_v69, kept3 _ (r := main_arg2) (by decide), kept2 _ (r := main_arg2) (by decide), kept1 _ (r := main_arg2) (by decide), kept3 _ (r := main_arg5) (by decide), kept2 _ (r := main_arg5) (by decide), kept1 _ (r := main_arg5) (by decide), kept3 _ (r := main_v18) (by decide), kept2 _ (r := main_v18) (by decide), after1_v18]
  rfl

theorem final_v74 (V : Valuation τ sig (Elt F)) : after ops V (Proc.devRef .tc main_v74) = out2 (V (Proc.devRef .tc main_arg0)) (V (Proc.devRef .tc main_arg2)) (V (Proc.devRef .tc main_arg3)) (V (Proc.devRef .tc main_arg4)) (V (Proc.devRef .tc main_arg5)) := by
  rw [ops, after_app, after_app, after_app, after4_v74, kept3 _ (r := main_arg3) (by decide), after3_v34, after3_v39, after3_v44, kept2 _ (r := main_arg3) (by decide), kept1 _ (r := main_arg3) (by decide), kept3 _ (r := main_arg5) (by decide), kept2 _ (r := main_arg5) (by decide), kept1 _ (r := main_arg5) (by decide), after2_v33, after1_v18, kept1 _ (r := main_arg2) (by decide), kept1 _ (r := main_arg4) (by decide)]
  rfl

theorem final_v79 (V : Valuation τ sig (Elt F)) : after ops V (Proc.devRef .tc main_v79) = out3 (V (Proc.devRef .tc main_arg4)) (V (Proc.devRef .tc main_arg5)) := by
  rw [ops, after_app, after_app, after_app, after4_v79, kept3 _ (r := main_arg4) (by decide), kept2 _ (r := main_arg4) (by decide), kept1 _ (r := main_arg4) (by decide), kept3 _ (r := main_arg5) (by decide), kept2 _ (r := main_arg5) (by decide), kept1 _ (r := main_arg5) (by decide)]
  rfl

/-- From any memory with zero counters the program ends with each result at its named value and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v69) = out1 (m ((c.tc : Thread nD τ).loc main_arg0)) (m ((c.tc : Thread nD τ).loc main_arg2)) (m ((c.tc : Thread nD τ).loc main_arg5))
      ∧ r.2.mem ((c.tc : Thread nD τ).loc main_v74) = out2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v79) = out3 (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v50).trans (final_v50 _), (h c main_v69).trans (final_v69 _), (h c main_v74).trans (final_v74 _), (h c main_v79).trans (final_v79 _),
      (h c main_arg0).trans (kept _ (by decide) (by decide) (by decide) (by decide)),
      (h c main_arg1).trans (kept _ (by decide) (by decide) (by decide) (by decide)),
      (h c main_arg2).trans (kept _ (by decide) (by decide) (by decide) (by decide)),
      (h c main_arg3).trans (kept _ (by decide) (by decide) (by decide) (by decide)),
      (h c main_arg4).trans (kept _ (by decide) (by decide) (by decide) (by decide)),
      (h c main_arg5).trans (kept _ (by decide) (by decide) (by decide) (by decide))⟩)
    (run_seq scopedRefs_eq scopedSems_eq defs main (fun _ => ops) main_eq (fun _ => ops_sub) m ρ)

end Cert.ReferenceIdeal.Hand

end
-- ==== Proof.Value.Arith.lean ====
module

public import Idealize.ShloMosaic.PureOps.Ideal.Laws
public import Idealize.ShloMosaic.Lib.IdealHost

@[expose] public section

noncomputable section

namespace Cert.Arith

open Idealize.ShloMosaic

/-! ## The named numbers -/

theorem lit_half : Ideal.ofBits .f32 0x3F000000#32 = ((1 / 2 : ℝ) : EReal) := by
  simp [Ideal.ofBits, Ideal.ieee, -EReal.coe_mul]; norm_num

theorem lit_sq : Ideal.ofBits .f32 0x3F4C422A#32 = ((13386282 / 16777216 : ℝ) : EReal) := by
  simp [Ideal.ofBits, Ideal.ieee, -EReal.coe_mul]; norm_num

theorem lit_c : Ideal.ofBits .f32 0x3D372713#32 = ((12003091 / 268435456 : ℝ) : EReal) := by
  simp [Ideal.ofBits, Ideal.ieee, -EReal.coe_mul]; norm_num

/-- The floor under every norm. -/
def eps : ℝ := 9223372 / 9223372036854775808

theorem lit_eps : Ideal.ofBits .f32 0x2B8CBCCC#32 = ((eps : ℝ) : EReal) := by
  simp [Ideal.ofBits, Ideal.ieee, eps, -EReal.coe_mul]; norm_num

theorem eps_pos : 0 < eps := by norm_num [eps]

theorem lit_rows : Ideal.ofBits .f32 0x46800000#32 = ((16384 : ℝ) : EReal) := by
  simp [Ideal.ofBits, Ideal.ieee, -EReal.coe_mul]; norm_num

theorem lit_neg_two : Ideal.ofBits .f32 0xC0000000#32 = ((-2 : ℝ) : EReal) := by
  simp [Ideal.ofBits, Ideal.ieee, -EReal.coe_mul]; norm_num

theorem lit_neg_inf : Ideal.ofBits .f32 0xFF800000#32 = (⊥ : EReal) := by
  simp [Ideal.ofBits, Ideal.ieee]

/-! ## The activation -/

/-- The inner coefficient: the first constant times the second, exactly. -/
def sqc : EReal := ((80338380498831 / 2251799813685248 : ℝ) : EReal)

/-- The activation of one entry. -/
def gel (x : EReal) : EReal :=
  ((1 / 2 : ℝ) : EReal) * x * (1 + Ideal.tanh (x * (((13386282 / 16777216 : ℝ) : EReal) + sqc * (x * x))))

theorem tanh_coe (r : ℝ) : Ideal.tanh (r : EReal) = ((Real.tanh r : ℝ) : EReal) := rfl

theorem gel_coe (r : ℝ) :
    gel (r : EReal) = ((1 / 2 * r * (1 + Real.tanh (r * (13386282 / 16777216 + 80338380498831 / 2251799813685248 * (r * r)))) : ℝ) : EReal) := by
  rw [gel, sqc]
  simp only [← EReal.coe_mul, ← EReal.coe_add]
  rw [show (1 : EReal) = ((1 : ℝ) : EReal) from rfl]
  simp only [tanh_coe, ← EReal.coe_mul, ← EReal.coe_add]

theorem gel_top : gel ⊤ = ⊤ := by
  have h2 : (1 : EReal) + 1 = ((2 : ℝ) : EReal) := by rw [show (1 : EReal) = ((1 : ℝ) : EReal) from rfl, ← EReal.coe_add]; norm_num
  rw [gel, sqc, EReal.top_mul_top, EReal.coe_mul_top_of_pos (by norm_num), EReal.coe_mul_top_of_pos (by norm_num), EReal.coe_add_top, EReal.top_mul_top]
  rw [show Ideal.tanh ⊤ = 1 from rfl, h2, EReal.top_mul_coe_of_pos (by norm_num)]

theorem gel_bot : gel ⊥ = 0 := by
  rw [gel, sqc, EReal.bot_mul_bot, EReal.coe_mul_top_of_pos (by norm_num), EReal.coe_add_top, EReal.bot_mul_top]
  rw [show Ideal.tanh ⊥ = -1 from rfl, show (1 : EReal) + -1 = 0 by rw [show (1 : EReal) = ((1 : ℝ) : EReal) from rfl, ← EReal.coe_neg, ← EReal.coe_add]; norm_num, mul_zero]

theorem gel_ne_bot (x : EReal) : gel x ≠ ⊥ := by
  induction x with
  | bot => rw [gel_bot]; exact EReal.zero_ne_bot
  | top => rw [gel_top]; exact top_ne_bot
  | coe r => rw [gel_coe]; exact EReal.coe_ne_bot _

/-- The activation with the cube written out, as the reference has it. -/
theorem gel_cubic (x : EReal) :
    ((1 / 2 : ℝ) : EReal) * x * (1 + Ideal.tanh (((13386282 / 16777216 : ℝ) : EReal) * (x + ((12003091 / 268435456 : ℝ) : EReal) * (x * x * x)))) = gel x := by
  induction x with
  | bot =>
    rw [gel_bot, EReal.bot_mul_bot, EReal.top_mul_bot, EReal.coe_mul_bot_of_pos (by norm_num), EReal.bot_add, EReal.coe_mul_bot_of_pos (by norm_num)]
    rw [show Ideal.tanh ⊥ = -1 from rfl, show (1 : EReal) + -1 = 0 by rw [show (1 : EReal) = ((1 : ℝ) : EReal) from rfl, ← EReal.coe_neg, ← EReal.coe_add]; norm_num, mul_zero]
  | top =>
    have h2 : (1 : EReal) + 1 = ((2 : ℝ) : EReal) := by rw [show (1 : EReal) = ((1 : ℝ) : EReal) from rfl, ← EReal.coe_add]; norm_num
    rw [gel_top, EReal.top_mul_top, EReal.top_mul_top, EReal.coe_mul_top_of_pos (by norm_num), EReal.coe_mul_top_of_pos (by norm_num), EReal.top_add_top, EReal.coe_mul_top_of_pos (by norm_num)]
    rw [show Ideal.tanh ⊤ = 1 from rfl, h2, EReal.top_mul_coe_of_pos (by norm_num)]
  | coe r =>
    rw [gel_coe, show (1 : EReal) = ((1 : ℝ) : EReal) from rfl]
    simp only [← EReal.coe_mul, ← EReal.coe_add, tanh_coe]
    rw [show (13386282 / 16777216 : ℝ) * (r + 12003091 / 268435456 * (r * r * r)) = r * (13386282 / 16777216 + 80338380498831 / 2251799813685248 * (r * r)) by ring]

/-! ## Sums of extended reals -/

theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

theorem sum_ne_bot {ι : Type} (s : Finset ι) (f : ι → EReal) (h : ∀ i, f i ≠ ⊥) : ∑ i ∈ s, f i ≠ ⊥ := by
  classical
  induction s using Finset.induction_on with
  | empty => simp
  | insert a s ha ih => rw [Finset.sum_insert ha]; exact fun h0 => (EReal.add_eq_bot_iff.1 h0).elim (h a) ih

theorem sum_eq_top {ι : Type} [Fintype ι] (f : ι → EReal) (h : ∀ i, f i ≠ ⊥) (k : ι) (hk : f k = ⊤) : ∑ i, f i = ⊤ := by
  classical
  rw [← Finset.add_sum_erase _ _ (Finset.mem_univ k), hk, EReal.top_add_of_ne_bot (sum_ne_bot _ _ h)]

theorem sq_nonneg (x : EReal) : 0 ≤ x * x := by
  induction x with
  | bot => simp
  | top => simp
  | coe r => rw [← EReal.coe_mul]; exact_mod_cast mul_self_nonneg r

theorem sq_ne_bot (x : EReal) : x * x ≠ ⊥ := fun h => by simpa [h] using sq_nonneg x

/-! ## Vectors under their norm -/

variable {n : ℕ}

/-- The norm of a vector, kept off zero by the floor. -/
def floorNorm (v : Fin n → EReal) : EReal := max (Ideal.sqrt (∑ i, v i * v i)) (eps : EReal)

theorem floorNorm_coe (v : Fin n → ℝ) : floorNorm (fun i => (v i : EReal)) = ((max (Real.sqrt (∑ i, v i * v i)) eps : ℝ) : EReal) := by
  rw [floorNorm]
  simp only [← EReal.coe_mul]
  rw [← coe_sum, Ideal.sqrt_coe, if_neg (not_lt.2 (Finset.sum_nonneg fun i _ => mul_self_nonneg _))]
  exact (EReal.coe_strictMono.monotone.map_max).symm

theorem floorNorm_top (v : Fin n → EReal) (k : Fin n) (hk : v k * v k = ⊤) : floorNorm v = ⊤ := by
  rw [floorNorm, sum_eq_top _ (fun i => sq_ne_bot (v i)) k hk]
  exact max_eq_left le_top

theorem div_top (x : EReal) : Ideal.div x ⊤ = 0 := by
  rw [Ideal.div, if_neg EReal.top_ne_zero, EReal.inv_top, mul_zero]

theorem div_real (a : ℝ) {b : ℝ} (hb : b ≠ 0) : Ideal.div (a : EReal) (b : EReal) = ((a / b : ℝ) : EReal) := by
  rw [Ideal.div_coe hb, ← EReal.coe_mul, mul_one_div]

/-- Either every entry is real, or the square of some entry is infinite. -/
theorem real_or_top (v : Fin n → EReal) : (∃ r : Fin n → ℝ, v = fun i => (r i : EReal)) ∨ ∃ k, v k * v k = ⊤ := by
  by_cases h : ∃ k, v k * v k = ⊤
  · exact .inr h
  · refine .inl ⟨fun i => (v i).toReal, funext fun i => (EReal.coe_toReal ?_ ?_).symm⟩
    · intro hi; exact h ⟨i, by rw [hi]; rfl⟩
    · intro hi; exact h ⟨i, by rw [hi]; rfl⟩

/-- A vector divided by its floored norm. -/
def unitV (v : Fin n → EReal) (i : Fin n) : EReal := Ideal.div (v i) (floorNorm v)

/-- The divided vector is real, of norm at most one. -/
theorem unitV_real (v : Fin n → EReal) : ∃ m : Fin n → ℝ, unitV v = (fun i => (m i : EReal)) ∧ ∑ i, m i * m i ≤ 1 := by
  rcases real_or_top v with ⟨r, rfl⟩ | ⟨k, hk⟩
  · have hp : 0 < max (Real.sqrt (∑ i, r i * r i)) eps := lt_max_of_lt_right eps_pos
    refine ⟨fun i => r i / max (Real.sqrt (∑ i, r i * r i)) eps, funext fun i => ?_, ?_⟩
    · rw [unitV, floorNorm_coe, div_real _ hp.ne']
    · simp only [div_mul_div_comm, ← Finset.sum_div]
      rw [div_le_one (mul_pos hp hp)]
      have h0 : 0 ≤ ∑ i, r i * r i := Finset.sum_nonneg fun i _ => mul_self_nonneg _
      calc ∑ i, r i * r i = Real.sqrt (∑ i, r i * r i) * Real.sqrt (∑ i, r i * r i) := (Real.mul_self_sqrt h0).symm
        _ ≤ _ := mul_self_le_mul_self (Real.sqrt_nonneg _) (le_max_left _ _)
  · exact ⟨fun _ => 0, funext fun i => by rw [unitV, floorNorm_top v k hk, div_top]; rfl, by simp⟩

/-- Dividing every entry by the number of rows first changes nothing, unless the norm of the quotient is positive and under the floor. -/
theorem unitV_scale (v : Fin n → EReal) (c : ℝ) (hc : 0 < c) (hc1 : 1 ≤ c)
    (h : (eps : EReal) ≤ Ideal.sqrt (∑ i, Ideal.div (v i) c * Ideal.div (v i) c) ∨ Ideal.sqrt (∑ i, Ideal.div (v i) c * Ideal.div (v i) c) = 0) :
    unitV (fun i => Ideal.div (v i) c) = unitV v := by
  rcases real_or_top v with ⟨r, rfl⟩ | ⟨k, hk⟩
  · simp only [div_real _ hc.ne'] at h ⊢
    have hs : ∑ i, (r i / c) * (r i / c) = (∑ i, r i * r i) / (c * c) := by
      rw [Finset.sum_div]; exact Finset.sum_congr rfl fun i _ => div_mul_div_comm _ _ _ _
    have h0 : 0 ≤ ∑ i, r i * r i := Finset.sum_nonneg fun i _ => mul_self_nonneg _
    have hq : Real.sqrt (∑ i, (r i / c) * (r i / c)) = Real.sqrt (∑ i, r i * r i) / c := by
      rw [hs, Real.sqrt_div' _ (mul_self_nonneg c), Real.sqrt_mul_self hc.le]
    simp only [← EReal.coe_mul] at h
    rw [← coe_sum, Ideal.sqrt_coe, if_neg (not_lt.2 (Finset.sum_nonneg fun i _ => mul_self_nonneg _)), hq] at h
    set q := Real.sqrt (∑ i, r i * r i) with hqd
    have hq0 : 0 ≤ q := Real.sqrt_nonneg _
    funext i
    rw [unitV, unitV, floorNorm_coe, floorNorm_coe, hq, ← hqd]
    rcases h with h | h
    · have h1 : eps ≤ q / c := by exact_mod_cast h
      have h2 : eps ≤ q := h1.trans (div_le_self hq0 hc1)
      have h3 : 0 < q := eps_pos.trans_le h2
      rw [max_eq_left h1, max_eq_left h2, div_real _ (div_pos h3 hc).ne', div_real _ h3.ne']
      congr 1
      field_simp
    · have h1 : q / c = 0 := by exact_mod_cast h
      have h2 : q = 0 := (div_eq_zero_iff.1 h1).resolve_right hc.ne'
      have h3 : r i * r i = 0 := by
        have := (Real.sqrt_eq_zero h0).1 h2
        exact (Finset.sum_eq_zero_iff_of_nonneg fun i _ => mul_self_nonneg _).1 this i (Finset.mem_univ i)
      have h4 : r i = 0 := mul_self_eq_zero.1 h3
      have hp (a : ℝ) : max a eps ≠ 0 := (lt_max_of_lt_right eps_pos).ne'
      rw [div_real _ (hp _), div_real _ (hp _), h4]
      simp
  · have hd (i : Fin n) : Ideal.div (v i) c = v i * ((1 / c : ℝ) : EReal) := Ideal.div_coe hc.ne' _
    have hk' : Ideal.div (v k) c * Ideal.div (v k) c = ⊤ := by
      have hp : (0 : ℝ) < 1 / c := by positivity
      rw [hd]
      induction hx : v k with
      | bot => rw [EReal.bot_mul_coe_of_pos hp]; rfl
      | top => rw [EReal.top_mul_coe_of_pos hp]; rfl
      | coe r => rw [hx, ← EReal.coe_mul] at hk; exact absurd hk (EReal.coe_ne_top _)
    funext i
    rw [unitV, unitV, floorNorm_top v k hk, floorNorm_top (fun i => Ideal.div (v i) c) k hk', div_top, div_top]

/-! ## Cosines -/

/-- The sum of products under the row's floored norm. -/
def cosK (b m : Fin n → EReal) : EReal := Ideal.div (∑ i, b i * m i) (floorNorm b)

/-- Dividing each entry of the row first gives the same. -/
theorem cosK_eq (b v : Fin n → EReal) : ∑ i, unitV b i * unitV v i = cosK b (unitV v) := by
  obtain ⟨m, hm, -⟩ := unitV_real v
  rw [hm]
  rcases real_or_top b with ⟨r, rfl⟩ | ⟨k, hk⟩
  · have hp : max (Real.sqrt (∑ i, r i * r i)) eps ≠ 0 := (lt_max_of_lt_right eps_pos).ne'
    simp only [cosK, unitV, floorNorm_coe, div_real _ hp, ← EReal.coe_mul, ← coe_sum]
    congr 1
    rw [Finset.sum_div]
    exact Finset.sum_congr rfl fun i _ => div_mul_eq_mul_div _ _ _
  · simp only [cosK, unitV, floorNorm_top b k hk, div_top, zero_mul, Finset.sum_const_zero]

/-- A cosine is above minus two. -/
theorem neg_two_lt_cosK (b v : Fin n → EReal) : ((-2 : ℝ) : EReal) < cosK b (unitV v) := by
  obtain ⟨m, hm, hm1⟩ := unitV_real v
  obtain ⟨u, hu, hu1⟩ := unitV_real b
  rw [← cosK_eq, hm, hu]
  simp only [← EReal.coe_mul, ← coe_sum]
  rw [EReal.coe_lt_coe_iff]
  have : 0 ≤ ∑ i, (u i + m i) * (u i + m i) := Finset.sum_nonneg fun i _ => mul_self_nonneg _
  have h2 : ∑ i, (u i + m i) * (u i + m i) = ∑ i, u i * u i + 2 * ∑ i, u i * m i + ∑ i, m i * m i := by
    rw [Finset.mul_sum, ← Finset.sum_add_distrib, ← Finset.sum_add_distrib]
    exact Finset.sum_congr rfl fun i _ => by ring
  linarith

end Cert.Arith
-- ==== Proof.Value.First.lean ====
module

public import proofs.«01_k».proof.Proof.RefRun
public import proofs.«01_k».proof.Proof.Value.Arith
public import Idealize.ShloMosaic.Lib.Pointwise.Tactic

@[expose] public section

set_option maxRecDepth 8192

noncomputable section

namespace Cert.Arith

open Idealize.ShloMosaic

/-- The position p holds the greatest value, and no earlier position does. -/
def IsFirst {n : ℕ} (v : Fin n → EReal) (p : Fin n) : Prop := ∀ r, v r ≤ v p ∧ (v r = v p → p ≤ r)

theorem IsFirst.unique {n : ℕ} {v : Fin n → EReal} {p q : Fin n} (hp : IsFirst v p) (hq : IsFirst v q) : p = q := by
  have h : v p = v q := le_antisymm (hq p).1 (hp q).1
  exact le_antisymm ((hp q).2 h.symm) ((hq p).2 h)

end Cert.Arith

namespace Cert.ReferenceIdeal.Hand

open Cert.ReferenceIdeal Cert.ReferenceIdeal.Gen Cert.Arith
open Idealize.ShloMosaic

/-- The reducer keeps the earlier of two pairs exactly when its value is not the smaller. -/
theorem reducer_eq {x y : EReal} {p q : ℕ} (hpq : p < q) (hq : q < 8192) :
    reducer_argmax_f32_i32 (F := Ideal) (x, BitVec.ofNat 32 p) (y, BitVec.ofNat 32 q) = if y ≤ x then (x, BitVec.ofNat 32 p) else (y, BitVec.ofNat 32 q) := by
  have hs : IntOp.cmpi .slt (BitVec.ofNat 32 p) (BitVec.ofNat 32 q) = 1#1 := by
    have hi (n : ℕ) (hn : n < 8192) : (BitVec.ofNat 32 n).toInt = n := by
      have hm : n % 2 ^ 32 = n := Nat.mod_eq_of_lt (by omega)
      rw [BitVec.toInt_eq_toNat_of_lt (by rw [BitVec.toNat_ofNat, hm]; omega), BitVec.toNat_ofNat, hm]
    have hd : (BitVec.ofNat 32 p).slt (BitVec.ofNat 32 q) = true := by
      rw [BitVec.slt, hi p (by omega), hi q hq]; exact decide_eq_true (by omega)
    simp [IntOp.cmpi, hd]
  simp only [reducer_argmax_f32_i32, Ideal.cmpf_def, Ideal.cmp, hs]
  rcases lt_trichotomy y x with h | h | h
  · simp [h, h.le, h.ne', IntOp.ori, IntOp.andi, Scalar.select]
  · subst h; simp [IntOp.ori, IntOp.andi, Scalar.select]
  · simp [h.not_ge, h.not_gt, h.ne, IntOp.ori, IntOp.andi, Scalar.select]

/-- What the fold over a rising list of positions has found. -/
theorem fold_first {N : ℕ} (hN : N ≤ 8192) (v : Fin N → EReal) (hv : ∀ r, v r ≠ ⊥) (l : List (Fin N)) (hl : l.Pairwise (· < ·)) :
    (l = [] ∧ l.foldl (fun r n => reducer_argmax_f32_i32 (F := Ideal) r (v n, BitVec.ofNat 32 n.val)) (⊥, 0#32) = (⊥, 0#32))
    ∨ ∃ p ∈ l, l.foldl (fun r n => reducer_argmax_f32_i32 (F := Ideal) r (v n, BitVec.ofNat 32 n.val)) (⊥, 0#32) = (v p, BitVec.ofNat 32 p.val)
      ∧ ∀ r ∈ l, v r ≤ v p ∧ (v r = v p → p ≤ r) := by
  induction l using List.reverseRecOn with
  | nil => exact .inl ⟨rfl, rfl⟩
  | append_singleton l a ih =>
    obtain ⟨h1, -, h3⟩ := List.pairwise_append.1 hl
    refine .inr ?_
    rw [List.foldl_append, List.foldl_cons, List.foldl_nil]
    rcases ih h1 with ⟨rfl, h⟩ | ⟨p, hp, h, hm⟩
    · refine ⟨a, by simp, ?_, fun r hr => ?_⟩
      · rw [h]
        have h0 : (⊥ : EReal) < v a := bot_lt_iff_ne_bot.2 (hv a)
        simp [reducer_argmax_f32_i32, Ideal.cmpf_def, Ideal.cmp, h0.not_gt, h0.ne, IntOp.ori, IntOp.andi, Scalar.select]
      · obtain rfl : r = a := by simpa using hr
        exact ⟨le_rfl, fun _ => le_rfl⟩
    · have hpa : p < a := h3 p hp a (by simp)
      rw [h, reducer_eq hpa (a.isLt.trans_le hN)]
      by_cases hle : v a ≤ v p
      · refine ⟨p, by simp [hp], by rw [if_pos hle], fun r hr => ?_⟩
        rcases List.mem_append.1 hr with hr | hr
        · exact hm r hr
        · obtain rfl : r = a := by simpa using hr
          exact ⟨hle, fun _ => hpa.le⟩
      · have hlt := not_le.1 hle
        refine ⟨a, by simp, by rw [if_neg hle], fun r hr => ?_⟩
        rcases List.mem_append.1 hr with hr | hr
        · exact ⟨(hm r hr).1.trans hlt.le, fun he => absurd he ((hm r hr).1.trans_lt hlt).ne⟩
        · obtain rfl : r = a := by simpa using hr
          exact ⟨le_rfl, fun _ => le_rfl⟩

/-- The arg-max is the first greatest position. -/
theorem argV_eq (v : FVec Ideal S8192 .f32) (hv : ∀ r, v r ≠ (⊥ : EReal)) :
    ∃ p : Fin 8192, IsFirst (fun r => v (ix1 r)) p ∧ argV (F := Ideal) v = fun _ => BitVec.ofNat 32 p.val := by
  have hN : S8192.numel = 8192 := by decide
  have hix (n : Fin S8192.numel) : S8192.rowMajor.symm n = ix1 (n.cast hN) := by
    rw [Equiv.symm_apply_eq]
    exact Fin.ext (by rw [Shape.rowMajor_val_one]; rfl)
  have key (j : S_.Idx) : argV (F := Ideal) v j = ((List.finRange S8192.numel).foldl (fun r n => reducer_argmax_f32_i32 (F := Ideal) r (v (S8192.rowMajor.symm n), BitVec.ofNat 32 n.val)) ((⊥ : EReal), 0#32)).2 := by
    rw [argV, Ideal.argReduce_eq_reduce2, Host.reduce2, List.filter_eq_self.2 fun n _ => decide_eq_true (Subsingleton.elim _ _)]
    have h0 : (constant (F := Ideal) S_ .f32 0xFF800000#32 (Shape.Idx.first h_S_)) = (⊥ : EReal) := lit_neg_inf
    rw [h0]
    congr 3
    funext r n
    rw [hix]
    rfl
  rcases fold_first (le_of_eq hN) (fun n => v (S8192.rowMajor.symm n)) (fun n => hv _) (List.finRange S8192.numel) (List.pairwise_lt_finRange _) with ⟨h, -⟩ | ⟨p, -, h, hm⟩
  · exact absurd (congrArg List.length h) (by rw [List.length_finRange, hN]; decide)
  · refine ⟨p.cast hN, fun r => ?_, funext fun j => (key j).trans (congrArg Prod.snd h)⟩
    have := hm (r.cast hN.symm) (List.mem_finRange _)
    simp only [hix] at this
    exact this

end Cert.ReferenceIdeal.Hand
-- ==== Proof.Value.Ref.lean ====
module

public import proofs.«01_k».proof.Proof.Value.First
public import Idealize.ShloMosaic.Lib.Pointwise.Reduce
public import Idealize.ShloMosaic.Lib.Pointwise.Sums
public import Idealize.ShloMosaic.Lib.Routing.OpsPair
public import Idealize.ShloMosaic.Lib.Routing.OpsSet

@[expose] public section

set_option maxRecDepth 8192

noncomputable section

namespace Cert.ReferenceIdeal.Hand

open Cert.ReferenceIdeal Cert.ReferenceIdeal.Gen Cert.Arith
open Idealize.ShloMosaic Idealize.ShloMosaic.Routing

/-! ## The sums and norms -/

theorem yV_apply (x : FVec Ideal S4x4096x2048 .f32) (i : S4x4096x2048.Idx) : yV (F := Ideal) x i = gel (x i) := by
  rw [← gel_cubic (x i), ← lit_half, ← lit_sq, ← lit_c, ← Ideal.ofBits_one_f32]
  rfl

/-- The sum of the activations of one column. -/
def colSum (x : FVec Ideal S4x4096x2048 .f32) (d : Fin 2048) : EReal :=
  ∑ p : Fin 16384, gel (x (ix3 ⟨p.val / 4096, by omega⟩ ⟨p.val % 4096, by omega⟩ d))

theorem meanV_apply (x : FVec Ideal S4x4096x2048 .f32) (d : Fin 2048) : meanV (F := Ideal) x (ix1 d) = Ideal.div (colSum x d) ((16384 : ℝ) : EReal) := by
  rw [← lit_rows]
  have h : Host.reduceAdd (F := Ideal) (shapeCast S16384x2048 (yV (F := Ideal) x) shapeCasts_S4x4096x2048_S16384x2048) (constant S_ .f32 0x00000000#32) reducesTo_S16384x2048_S2048_d0 h_S_ (ix1 d) = colSum x d := by
    simp only [Host.reduceAdd, Ideal.hostReduceAdd_def]
    rw [Ideal.hostReduceAdd_single reducesTo_S16384x2048_S2048_d0 (by decide)]
    rw [show (constant (F := Ideal) S_ .f32 0x00000000#32 (Shape.Idx.first h_S_)) = (0 : EReal) from Ideal.ofBits_zero_f32, zero_add]
    refine Finset.sum_congr rfl fun p _ => ?_
    rw [← yV_apply]
    refine shapeCast_apply _ _ _ _ ?_
    rewrite [Shape.rowMajor_val_three, Shape.rowMajor_val_two]
    show (p.val / 4096 * 4096 + p.val % 4096) * 2048 + d.val = p.val * 2048 + d.val
    omega
  exact congrArg (Ideal.div · _) h

theorem dirV_apply (s : FVec Ideal S2048 .f32) (d : Fin 2048) : dirV (F := Ideal) s (ix2 0 d) = unitV (fun d => s (ix1 d)) d := by
  unfold dirV rowV unitV floorNorm
  rw [← lit_eps]
  pointwise

theorem bufnV_apply (b : FVec Ideal S8192x2048 .f32) (r : Fin 8192) (d : Fin 2048) : bufnV (F := Ideal) b (ix2 r d) = unitV (fun d => b (ix2 r d)) d := by
  unfold bufnV unitV floorNorm
  rw [← lit_eps]
  pointwise

theorem mcV_apply (s : FVec Ideal S2048 .f32) (d : Fin 2048) : mcV (F := Ideal) s (ix1 d) = unitV (fun d => s (ix1 d)) d := by
  unfold mcV unitV floorNorm
  rw [← lit_eps]
  pointwise

theorem dotV_apply (s : FVec Ideal S2048 .f32) (b : FVec Ideal S8192x2048 .f32) (r : Fin 8192) :
    dotV (F := Ideal) s b (ix1 r) = cosK (fun d => b (ix2 r d)) (unitV fun d => s (ix1 d)) := by
  rw [← cosK_eq]
  simp only [← bufnV_apply, ← dirV_apply]
  unfold dotV
  pointwise

/-- Where every row counts, the similarities are the cosines. -/
theorem simV_apply (s : FVec Ideal S2048 .f32) (b : FVec Ideal S8192x2048 .f32) (k : IVec S8192 1) (hk : ∀ i, k i = 1#1) (r : Fin 8192) :
    simV (F := Ideal) s b k (ix1 r) = cosK (fun d => b (ix2 r d)) (unitV fun d => s (ix1 d)) := by
  rw [← dotV_apply]
  exact if_pos (hk _)

/-! ## One entry read, one entry written -/

theorem wrapV_of_nonneg (p : IVec S_ 32) (hp : 0 ≤ (p (Shape.Idx.first h_S_)).toInt) : wrapV (F := Ideal) p = p := by
  funext j
  obtain rfl : j = Shape.Idx.first h_S_ := Subsingleton.elim _ _
  have h : (p (Shape.Idx.first h_S_)).slt 0#32 = false := by rw [BitVec.slt]; exact decide_eq_false (not_lt.2 hp)
  simp only [wrapV, select, cmpi, IntOp.cmpi, constantI, h]
  rfl

theorem toInt_small (n : ℕ) (hn : n < 2 ^ 31) : (BitVec.ofNat 32 n).toInt = n := by
  have hm : n % 2 ^ 32 = n := Nat.mod_eq_of_lt (by omega)
  rw [BitVec.toInt_eq_toNat_of_lt (by rw [BitVec.toNat_ofNat, hm]; omega), BitVec.toNat_ofNat, hm]

theorem atV_apply (v : FVec Ideal S8192 .f32) (p : Fin 8192) (j : S_.Idx) : atV (F := Ideal) v (fun _ => BitVec.ofNat 32 p.val) j = v (ix1 p) := by
  have hi : (BitVec.ofNat 32 p.val).toInt = (p.val : ℤ) := toInt_small _ (by omega)
  unfold atV
  rw [wrapV_of_nonneg _ (by rw [hi]; omega)]
  refine (shapeCast_apply _ _ _ (ix1 (0 : Fin 1)) ?_).trans ?_
  · exact congrArg Fin.val (Subsingleton.elim (α := Fin 1) _ _)
  · rw [Host.dynamicSlice_apply]
    refine congrArg v (funext fun a => Fin.ext ?_)
    match a with
    | ⟨0, _⟩ =>
      show (min (max (BitVec.ofNat 32 p.val).toInt 0) ((8192 - 1 : ℕ) : ℤ)).toNat + 0 = p.val
      rw [hi]
      omega

theorem setV_apply {α : Type} (v : S8192.Idx → α) (p : IVec S_ 32) (u : S_.Idx → α) (hp : 0 ≤ (p (Shape.Idx.first h_S_)).toInt) (r : Fin 8192) :
    setV (F := Ideal) v p u (ix1 r) = if ((r.val : ℤ) = (p (Shape.Idx.first h_S_)).toInt) then u (Shape.Idx.first h_S_) else v (ix1 r) := by
  have lands (k : S_.Idx) : scatter_S8192_S1_S__n_0_0_0.resultIdx? k (broadcastInDim S1 ![] bcast_S_S1 p) = some (ix1 r) ↔ (r.val : ℤ) = (p (Shape.Idx.first h_S_)).toInt := by
    rw [resultIdx?_eq_some]
    refine Iff.trans Fin.forall_fin_one ?_
    have h1 : scatter_S8192_S1_S__n_0_0_0.start k (broadcastInDim S1 ![] bcast_S_S1 p) 0 = (p (Shape.Idx.first h_S_)).toInt := congrArg (fun j => (p j).toInt) (Subsingleton.elim _ _)
    have h2 : scatter_S8192_S1_S__n_0_0_0.window k 0 = 0 := rfl
    show scatter_S8192_S1_S__n_0_0_0.start k (broadcastInDim S1 ![] bcast_S_S1 p) 0 + (scatter_S8192_S1_S__n_0_0_0.window k 0 : ℤ) = (r.val : ℤ) ↔ _
    rw [h1, h2]
    omega
  unfold setV
  rw [wrapV_of_nonneg p hp]
  by_cases h : (r.val : ℤ) = (p (Shape.Idx.first h_S_)).toInt
  · rw [if_pos h]
    exact scatter_set_hit _ _ _ _ _ _ (fun k _ => congrArg u (Subsingleton.elim _ _)) (Shape.Idx.first h_S_) ((lands _).2 h)
  · rw [if_neg h]
    exact scatter_set_miss _ _ _ _ _ fun k hk => h ((lands k).1 hk)

theorem setRow_apply (v : FVec Ideal S8192x2048 .f32) (p : IVec S_ 32) (u : FVec Ideal S2048 .f32) (hp : 0 ≤ (p (Shape.Idx.first h_S_)).toInt) (r : Fin 8192) (d : Fin 2048) :
    Host.scatter scatter_S8192x2048_S1_S2048_0_0_0_0 (fun _ b => b) v (broadcastInDim S1 ![] bcast_S_S1 (wrapV (F := Ideal) p)) u (ix2 r d)
      = if ((r.val : ℤ) = (p (Shape.Idx.first h_S_)).toInt) then u (ix1 d) else v (ix2 r d) := by
  have lands (k : S2048.Idx) : scatter_S8192x2048_S1_S2048_0_0_0_0.resultIdx? k (broadcastInDim S1 ![] bcast_S_S1 p) = some (ix2 r d) ↔ (r.val : ℤ) = (p (Shape.Idx.first h_S_)).toInt ∧ k = ix1 d := by
    rw [resultIdx?_eq_some]
    refine Iff.trans Fin.forall_fin_two ?_
    have h1 : scatter_S8192x2048_S1_S2048_0_0_0_0.start k (broadcastInDim S1 ![] bcast_S_S1 p) 0 = (p (Shape.Idx.first h_S_)).toInt := congrArg (fun j => (p j).toInt) (Subsingleton.elim _ _)
    have h2 : scatter_S8192x2048_S1_S2048_0_0_0_0.window k 0 = 0 := rfl
    have h3 : scatter_S8192x2048_S1_S2048_0_0_0_0.start k (broadcastInDim S1 ![] bcast_S_S1 p) 1 = 0 := rfl
    have h4 : scatter_S8192x2048_S1_S2048_0_0_0_0.window k 1 = (k 0).val := rfl
    show scatter_S8192x2048_S1_S2048_0_0_0_0.start k (broadcastInDim S1 ![] bcast_S_S1 p) 0 + (scatter_S8192x2048_S1_S2048_0_0_0_0.window k 0 : ℤ) = (r.val : ℤ)
      ∧ scatter_S8192x2048_S1_S2048_0_0_0_0.start k (broadcastInDim S1 ![] bcast_S_S1 p) 1 + (scatter_S8192x2048_S1_S2048_0_0_0_0.window k 1 : ℤ) = (d.val : ℤ) ↔ _
    rw [h1, h2, h3, h4]
    have hk : k = ix1 d ↔ (k 0).val = d.val := ⟨fun h => by rw [h]; rfl, fun h => funext fun a => by match a with | ⟨0, _⟩ => exact Fin.ext h⟩
    rw [hk]
    omega
  rw [wrapV_of_nonneg p hp]
  by_cases h : (r.val : ℤ) = (p (Shape.Idx.first h_S_)).toInt
  · rw [if_pos h]
    exact scatter_set_hit _ _ _ _ _ _ (fun k hk => congrArg u ((lands k).1 hk).2) (ix1 d) ((lands _).2 ⟨h, rfl⟩)
  · rw [if_neg h]
    exact scatter_set_miss _ _ _ _ _ fun k hk => h ((lands k).1 hk).1

/-! ## The four results -/

section Results

variable (x : FVec Ideal S4x4096x2048 .f32) (lk : FVec Ideal S_ .f32) (b : FVec Ideal S8192x2048 .f32) (dp : FVec Ideal S8192 .f32) (k : IVec S8192 1) (p : IVec S_ 32)

/-- The direction of the summed activations. -/
def dirOf (d : Fin 2048) : EReal := unitV (colSum x) d

/-- The cosine of row r of the table with that direction. -/
def simOf (r : Fin 8192) : EReal := cosK (fun d => b (ix2 r d)) (dirOf x)

/-- The gate of one level. -/
def gateOf (lk l : EReal) : EReal :=
  Ideal.exp (-(min (Ideal.ofBits .f32 0x41000000#32) (max (Ideal.ofBits .f32 0x3DCCCCCD#32) (Ideal.exp lk))) * (1 - l))

/-- The factor on the level of the nearest row. -/
def decOf (s : EReal) : EReal := if Ideal.ofBits .f32 0x3F59999A#32 < s then ((1 / 2 : ℝ) : EReal) else 1

/-- The mean's norm is zero, or at least the floor. -/
def Ready : Prop :=
  ((eps : ℝ) : EReal) ≤ Ideal.sqrt (∑ d, meanV (F := Ideal) x (ix1 d) * meanV (F := Ideal) x (ix1 d)) ∨ Ideal.sqrt (∑ d, meanV (F := Ideal) x (ix1 d) * meanV (F := Ideal) x (ix1 d)) = 0

variable {x}

theorem unit_mean (h : Ready x) : (unitV fun d => meanV (F := Ideal) x (ix1 d)) = dirOf x := by
  unfold Ready at h
  simp only [meanV_apply] at h ⊢
  exact unitV_scale _ _ (by norm_num) (by norm_num) h

theorem out1_apply (h : Ready x) (hp : 0 ≤ (p (Shape.Idx.first h_S_)).toInt) (r : Fin 8192) (d : Fin 2048) :
    out1 (F := Ideal) x b p (ix2 r d) = if ((r.val : ℤ) = (p (Shape.Idx.first h_S_)).toInt) then dirOf x d else b (ix2 r d) := by
  unfold out1
  rw [setRow_apply _ _ _ hp, mcV_apply, unit_mean h]

theorem out3_apply (hp : 0 ≤ (p (Shape.Idx.first h_S_)).toInt) (r : Fin 8192) :
    out3 (F := Ideal) k p (ix1 r) = if ((r.val : ℤ) = (p (Shape.Idx.first h_S_)).toInt) then 1#1 else k (ix1 r) := by
  unfold out3
  rw [setV_apply _ _ _ hp]
  rfl

/-- The similarity array finds the first greatest cosine. -/
theorem arg_first (h : Ready x) (hk : ∀ i, k i = 1#1) :
    ∃ q : Fin 8192, IsFirst (simOf x b) q ∧ argV (F := Ideal) (simV (meanV x) b k) = (fun _ => BitVec.ofNat 32 q.val)
      ∧ ∀ r, simV (F := Ideal) (meanV x) b k (ix1 r) = simOf x b r := by
  have hs (r : Fin 8192) : simV (F := Ideal) (meanV x) b k (ix1 r) = simOf x b r := by
    rw [simV_apply _ _ _ hk, unit_mean h]; rfl
  obtain ⟨q, hq, he⟩ := argV_eq (simV (F := Ideal) (meanV x) b k) fun r hr => by
    have hr' : simV (F := Ideal) (meanV x) b k (ix1 (r 0)) = ⊥ := (congrArg _ (funext fun a => by match a with | ⟨0, _⟩ => rfl)).trans hr
    rw [hs (r 0)] at hr'
    exact ((EReal.bot_lt_coe _).trans (neg_two_lt_cosK _ (colSum x))).ne' hr'
  refine ⟨q, ?_, he, hs⟩
  simpa only [hs] using hq

theorem out0_apply (q : Fin 8192) (he : argV (F := Ideal) (simV (meanV x) b k) = fun _ => BitVec.ofNat 32 q.val) (i : S4x4096x2048.Idx) :
    out0 (F := Ideal) x lk b dp k i = gel (x i) * gateOf (lk (Shape.Idx.first h_S_)) (dp (ix1 q)) := by
  unfold out0
  rw [he]
  have hj (j : S_.Idx) : gateV (F := Ideal) (clipV lk) (atV dp fun _ => BitVec.ofNat 32 q.val) j = gateOf (lk (Shape.Idx.first h_S_)) (dp (ix1 q)) := by
    obtain rfl : j = Shape.Idx.first h_S_ := Subsingleton.elim _ _
    rw [gateOf, ← atV_apply dp q (Shape.Idx.first h_S_), ← Ideal.ofBits_one_f32]
    rfl
  rw [← yV_apply]
  exact congrArg (yV (F := Ideal) x i * ·) (hj _)

theorem out2_apply (q : Fin 8192) (hp : 0 ≤ (p (Shape.Idx.first h_S_)).toInt)
    (he : argV (F := Ideal) (simV (meanV x) b k) = fun _ => BitVec.ofNat 32 q.val) (hs : ∀ r, simV (F := Ideal) (meanV x) b k (ix1 r) = simOf x b r) (r : Fin 8192) :
    out2 (F := Ideal) x b dp k p (ix1 r)
      = if ((r.val : ℤ) = (p (Shape.Idx.first h_S_)).toInt) then 1 else if r = q then dp (ix1 q) * decOf (simOf x b q) else dp (ix1 r) := by
  have hi : (BitVec.ofNat 32 q.val).toInt = (q.val : ℤ) := toInt_small _ (by omega)
  unfold out2
  rw [setV_apply _ _ _ hp, he, setV_apply _ _ _ (by rw [hi]; omega), hi]
  have hd (j : S_.Idx) : decV (F := Ideal) (atV (simV (meanV x) b k) fun _ => BitVec.ofNat 32 q.val) (atV dp fun _ => BitVec.ofNat 32 q.val) j = dp (ix1 q) * decOf (simOf x b q) := by
    rw [decOf, ← lit_half, ← Ideal.ofBits_one_f32, ← hs, ← atV_apply dp q j, ← atV_apply (simV (F := Ideal) (meanV x) b k) q j]
    refine congrArg (_ * ·) ?_
    generalize atV (F := Ideal) (simV (meanV x) b k) (fun _ => BitVec.ofNat 32 q.val) = s
    show Scalar.select (Ideal.cmp .ogt (s j) (Ideal.ofBits .f32 0x3F59999A#32)) (Ideal.ofBits .f32 0x3F000000#32) (Ideal.ofBits .f32 0x3F800000#32) = _
    by_cases h : Ideal.ofBits .f32 0x3F59999A#32 < s j
    · simp [Ideal.cmp, Scalar.select, h]
    · simp [Ideal.cmp, Scalar.select, h]
  rw [hd]
  have hrq : ((r.val : ℤ) = (q.val : ℤ)) ↔ r = q := by rw [Fin.ext_iff]; omega
  simp only [hrq]
  rw [show (constant (F := Ideal) S_ .f32 0x3F800000#32 (Shape.Idx.first h_S_)) = (1 : EReal) from Ideal.ofBits_one_f32]

end Results

end Cert.ReferenceIdeal.Hand
-- ==== Proof.Value.Acc.lean ====
module

public import proofs.«01_k».proof.Proof.Ideal.Data
public import Idealize.ShloMosaic.Lib.Pointwise.Tactic
public import Idealize.ShloMosaic.Lib.Pointwise.Reshape
public import Idealize.ShloMosaic.Lib.Pipeline.ValueKit.Tiles

@[expose] public section

set_option maxRecDepth 16384

noncomputable section

namespace Cert.KernelIdeal.Hand

open Cert.KernelIdeal.Gen
open Idealize.ShloMosaic Idealize.ShloMosaic.TcCoe

variable {F : FTy → Type} [FloatOps F] [Named F]

/-- The activation at one entry, as the kernel spells it. -/
def act (x : F .f32) : F .f32 :=
  FloatOps.mulf (FloatOps.mulf (Scalar.ofBits .f32 0x3F000000#32) x) (FloatOps.addf (Scalar.ofBits .f32 0x3F800000#32) (FloatOps.tanh (FloatOps.mulf x (FloatOps.addf (Scalar.ofBits .f32 0x3F4C422A#32) (FloatOps.mulf (Named.named κ "sqc" 0x3D122279#32) (FloatOps.mulf x x))))))

/-- Eight rows of a half block, from row o on. -/
def rowsOf (x : Vec F S512x2048 .f32) (o : ℕ) : Vec F S8x2048 .f32 := fun ix =>
  x (ix2 ⟨(o + (ix 0).val) % 512, Nat.mod_lt _ (by decide)⟩ (ix 1))

theorem ld8_eq (x : Vec F S512x2048 .f32) (o : ℕ) (h) : ld8 x o h = rowsOf x o := by
  funext ix
  have h0 := h 0
  have h1 : (ix 0).val < 8 := (ix 0).isLt
  refine View.ld_unit_apply_of x _ _ h ix _ fun a => ?_
  match a with
  | ⟨0, _⟩ => exact Nat.mod_eq_of_lt (show o + (ix 0).val < 512 by simp at h0; omega)
  | ⟨1, _⟩ => exact (Nat.zero_add _).symm

/-- The activation, entry by entry. -/
def actV (v : Vec F S8x2048 .f32) : FVec F S8x2048 .f32 := fun ix => act (v ix)

theorem actV_fold (v : Vec F S8x2048 .f32) :
    mulf (mulf (broadcast S8x2048 (Scalar.ofBits .f32 0x3F000000#32)) v) (addf (broadcast S8x2048 (Scalar.ofBits .f32 0x3F800000#32)) (tanh (mulf v (addf (broadcast S8x2048 (Scalar.ofBits .f32 0x3F4C422A#32)) (mulf (broadcast S8x2048 (Named.named κ "sqc" 0x3D122279#32)) (mulf v v)))))) = actV v := rfl

/-- The activations of the first n groups of eight rows, added one group at a time. -/
def addRows (a : FVec F S8x2048 .f32) (x : Vec F S512x2048 .f32) : ℕ → FVec F S8x2048 .f32
  | 0 => a
  | n + 1 => addf (addRows a x n) (actV (rowsOf x (8 * n)))

theorem accStep_eq (t : BitVec 32) (a : Vec F S8x2048 .f32) (x y : Vec F S512x2048 .f32) :
    accStep t a x y = addRows (addRows (Scalar.select (Scalar.cmpi .eq t 0#32) (broadcast S8x2048 (Scalar.ofBits .f32 0x00000000#32)) a) x 64) y 64 := by
  rw [accStep, View.ld_unit_lit _ _ (by decide)]
  simp only [ld8_eq, k0_pay1, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, shapeCast_self, actV_fold]
  rfl

end Cert.KernelIdeal.Hand
-- ==== Proof.Value.Blocks.lean ====
/- The kernel's input blocks at an index, as entries of the program's arguments. -/
module

public import proofs.«01_k».proof.Proof.Value.Acc
public import Idealize.ShloMosaic.Lib.Pipeline.ValueKit.Geometry
public import Idealize.ShloMosaic.Lib.StableHlo.RunRead
public import Idealize.ShloMosaic.Lib.StableHlo.RunClose

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.StableHlo

variable {F : FTy → Type} [FloatOps F] [Named F]

variable (m : (ℓ : Loc nD τ sig) → Buf (Elt F) ℓ)

/-- The input tensor, as found in memory. -/
abbrev aX (c : Dev nD) : Vec F S4x4096x2048 .f32 := m (c, Proc.tc.devRef main_arg0)
/-- The logarithm of the gate's rate, as found in memory. -/
abbrev aK (c : Dev nD) : Vec F S_ .f32 := m (c, Proc.tc.devRef main_arg1)
/-- The stored directions, as found in memory. -/
abbrev aB (c : Dev nD) : Vec F S8192x2048 .f32 := m (c, Proc.tc.devRef main_arg2)
/-- The depletion levels, as found in memory. -/
abbrev aD (c : Dev nD) : Vec F S8192 .f32 := m (c, Proc.tc.devRef main_arg3)
/-- The mask, as found in memory. -/
abbrev aM (c : Dev nD) : Vec F S8192 .i1 := m (c, Proc.tc.devRef main_arg4)
/-- The pointer, as found in memory. -/
abbrev aP (c : Dev nD) : Vec F S_ .i32 := m (c, Proc.tc.devRef main_arg5)

theorem V_arg2 (c : Dev nD) : V m c main_arg2 = aB m c := by
  unfold V V0; simp only [hostOps0, List.flatten_cons, List.flatten_nil, List.append_nil]; after_results_simp_entrywise
theorem V_v0 (c : Dev nD) : V m c main_v0 = shapeCast (s := S4x4096x2048) S16384x2048 (aX m c) shapeCasts_S4x4096x2048_S16384x2048 := by
  unfold V V0; simp only [hostOps0, List.flatten_cons, List.flatten_nil, List.append_nil]; after_results_simp_entrywise; rfl
theorem V_v2 (c : Dev nD) : V m c main_v2 = shapeCast (s := S8192) S8x1024 (extui 8 (aM m c) natLt_1_8) shapeCasts_S8192_S8x1024 := by
  unfold V V0; simp only [hostOps0, List.flatten_cons, List.flatten_nil, List.append_nil]; after_results_simp_entrywise; rfl
theorem V_v3 (c : Dev nD) : V m c main_v3 = shapeCast (s := S8192) S8x1024 (aD m c) shapeCasts_S8192_S8x1024 := by
  unfold V V0; simp only [hostOps0, List.flatten_cons, List.flatten_nil, List.append_nil]; after_results_simp_entrywise; rfl
theorem V_v4 (c : Dev nD) : V m c main_v4 = shapeCast (s := S_) S1x1 (aK m c) shapeCasts_S_S1x1 := by
  unfold V V0; simp only [hostOps0, List.flatten_cons, List.flatten_nil, List.append_nil]; after_results_simp_entrywise; rfl
theorem V_v5 (c : Dev nD) : V m c main_v5 = shapeCast (s := S_) S1x1 (aP m c) shapeCasts_S_S1x1 := by
  unfold V V0; simp only [hostOps0, List.flatten_cons, List.flatten_nil, List.append_nil]; after_results_simp_entrywise; rfl

/-- The pair of half blocks of the input read at a point. -/
def xb (n : ℕ) : ℕ := if n < 16 then n else if n < 32 then 15 else n - 32
/-- The block of stored directions read at a point. -/
def bb (n : ℕ) : ℕ := if n < 16 then 0 else if n < 32 then n - 16 else 15

theorem ix0_0 : ∀ t : Fin cfg0.N, win0_0.index t = ![0, 0] := (by decide +kernel : ∀ t : Fin grid0.N, _)
theorem ix0_1 : ∀ t : Fin cfg0.N, win0_1.index t = ![0, 0] := (by decide +kernel : ∀ t : Fin grid0.N, _)
theorem ix0_2 : ∀ t : Fin cfg0.N, win0_2.index t = ![2 * xb t.val, 0] := (by decide +kernel : ∀ t : Fin grid0.N, _)
theorem ix0_3 : ∀ t : Fin cfg0.N, win0_3.index t = ![2 * xb t.val + 1, 0] := (by decide +kernel : ∀ t : Fin grid0.N, _)
theorem ix0_4 : ∀ t : Fin cfg0.N, win0_4.index t = ![bb t.val, 0] := (by decide +kernel : ∀ t : Fin grid0.N, _)
theorem ix0_5 : ∀ t : Fin cfg0.N, win0_5.index t = ![0, 0] := (by decide +kernel : ∀ t : Fin grid0.N, _)
theorem ix0_6 : ∀ t : Fin cfg0.N, win0_6.index t = ![0, 0] := (by decide +kernel : ∀ t : Fin grid0.N, _)
theorem ix0_7 : ∀ t : Fin cfg0.N, win0_7.index t = ![(if t.val < 32 then 0 else t.val - 32), 0] := (by decide +kernel : ∀ t : Fin grid0.N, _)
theorem ix0_8 : ∀ t : Fin cfg0.N, win0_8.index t = ![bb t.val, 0] := (by decide +kernel : ∀ t : Fin grid0.N, _)

/-- A row of the flattened input. -/
def flat (x : Vec F S4x4096x2048 .f32) (p : ℕ) (d : Fin 2048) : F .f32 :=
  x (ix3 ⟨p / 4096 % 4, Nat.mod_lt _ (by decide)⟩ ⟨p % 4096, Nat.mod_lt _ (by decide)⟩ d)

theorem flat_eq (x : Vec F S4x4096x2048 .f32) (i : S16384x2048.Idx) :
    shapeCast (s := S4x4096x2048) S16384x2048 x shapeCasts_S4x4096x2048_S16384x2048 i = flat x (i 0).val (i 1) := by
  have h : (i 0).val < 16384 := (i 0).isLt
  refine shapeCast_apply _ _ _ _ ?_
  rw [Shape.rowMajor_val_two, Shape.rowMajor_val_three]
  show ((i 0).val / 4096 % 4 * 4096 + (i 0).val % 4096) * 2048 + (i 1).val = (i 0).val * 2048 + (i 1).val
  omega

theorem blk2 (c : Dev nD) (t : Fin cfg0.N) (i : S512x2048.Idx) :
    (iblk m c 2 t : Vec F S512x2048 .f32) i = flat (aX m c) (1024 * xb t.val + (i 0).val) (i 1) := by
  blk_simp [iblk]
  refine (congrFun (V_v0 m c) _).trans ((flat_eq _ _).trans ?_)
  congr 1
  · blk_simp [ix0_2]; simp; omega
  · apply Fin.ext; blk_simp [ix0_2]

theorem blk3 (c : Dev nD) (t : Fin cfg0.N) (i : S512x2048.Idx) :
    (iblk m c 3 t : Vec F S512x2048 .f32) i = flat (aX m c) (1024 * xb t.val + 512 + (i 0).val) (i 1) := by
  blk_simp [iblk]
  refine (congrFun (V_v0 m c) _).trans ((flat_eq _ _).trans ?_)
  congr 1
  · blk_simp [ix0_3]; simp; omega
  · apply Fin.ext; blk_simp [ix0_3]

theorem bb_lt (n : ℕ) (h : n < 48) : bb n < 16 := by unfold bb; split_ifs <;> omega

theorem blk4 (c : Dev nD) (t : Fin cfg0.N) (i : S512x2048.Idx) (j : Fin 8192) (hj : j.val = bb t.val * 512 + (i 0).val) :
    (iblk m c 4 t : Vec F S512x2048 .f32) i = aB m c (ix2 j (i 1)) := by
  blk_simp [iblk]
  refine (congrFun (V_arg2 m c) _).trans ?_
  congr 1
  funext a; apply Fin.ext
  match a with
  | ⟨0, _⟩ => blk_simp [ix0_4]; simp [hj]
  | ⟨1, _⟩ => blk_simp [ix0_4]; simp

theorem blk0 (c : Dev nD) (t : Fin cfg0.N) (i : S_.Idx) : sm (iblk m c 0 t : Vec F S1x1 .f32) = aK m c i := by
  unfold sm
  blk_simp [iblk]
  refine (congrFun (V_v4 m c) _).trans ?_
  refine shapeCast_apply _ _ _ _ ?_
  exact congrArg Fin.val (Subsingleton.elim (α := Fin 1) _ _)

theorem blk1 (c : Dev nD) (t : Fin cfg0.N) (i : S_.Idx) : sm (iblk m c 1 t : Vec F S1x1 .i32) = aP m c i := by
  unfold sm
  blk_simp [iblk]
  refine (congrFun (V_v5 m c) _).trans ?_
  refine shapeCast_apply _ _ _ _ ?_
  exact congrArg Fin.val (Subsingleton.elim (α := Fin 1) _ _)

/-- Entry (a, b) of the [8, 1024] layout is entry 1024 a + b. -/
def lay (i : S8x1024.Idx) : Fin 8192 := ⟨(i 0).val * 1024 + (i 1).val, by
  have h : (i 0).val < 8 := (i 0).isLt
  have h' : (i 1).val < 1024 := (i 1).isLt
  omega⟩

theorem lay_eq {α : Type} (x : S8192.Idx → α) (i : S8x1024.Idx) :
    shapeCast (s := S8192) S8x1024 x shapeCasts_S8192_S8x1024 i = x (ix1 (lay i)) := by
  refine shapeCast_apply _ _ _ _ ?_
  rw [Shape.rowMajor_val_two, Shape.rowMajor_val_one]
  rfl

theorem blk6 (c : Dev nD) (t : Fin cfg0.N) (i : S8x1024.Idx) :
    (iblk m c 6 t : Vec F S8x1024 .f32) i = aD m c (ix1 (lay i)) := by
  blk_simp [iblk]
  refine (congrFun (V_v3 m c) _).trans ((lay_eq _ _).trans (congrArg (fun q => aD m c (ix1 q)) (Fin.ext ?_)))
  unfold lay
  blk_simp [ix0_6]

theorem blk5 (c : Dev nD) (t : Fin cfg0.N) (i : S8x1024.Idx) :
    (iblk m c 5 t : Vec F S8x1024 .i8) i = (aM m c (ix1 (lay i))).setWidth 8 := by
  blk_simp [iblk]
  refine (congrFun (V_v2 m c) _).trans ((lay_eq _ _).trans (congrArg (fun q => (aM m c (ix1 q)).setWidth 8) (Fin.ext ?_)))
  unfold lay
  blk_simp [ix0_5]

end Cert.KernelIdeal.Hand
-- ==== Proof.Value.Sum.lean ====
/- The kernel's accumulator at exact arithmetic: after every point, the sum of the activations of the rows read so far. -/
module

public import proofs.«01_k».proof.Proof.Value.Blocks
public import proofs.«01_k».proof.Proof.Value.Arith
public import Idealize.ShloMosaic.Lib.Pointwise.Reduce
public import Idealize.ShloMosaic.Lib.Pointwise.Sums

@[expose] public section

set_option maxRecDepth 16384

noncomputable section

namespace Cert.KernelIdeal.Hand

open Cert.KernelIdeal.Gen Cert.Arith
open Idealize.ShloMosaic Idealize.ShloMosaic.TcCoe

theorem act_eq (x : Ideal .f32) : act (F := Ideal) x = gel x := by
  unfold act gel
  rw [IdealRules.named_const.ideal_named_scalar _ _ _ _ rfl]
  show Ideal.ofBits .f32 0x3F000000#32 * x * (Ideal.ofBits .f32 0x3F800000#32 + Ideal.tanh (x * (Ideal.ofBits .f32 0x3F4C422A#32 + _ * (x * x)))) = _
  rw [lit_half, lit_sq, Ideal.ofBits_one_f32]
  rfl

theorem addRows_apply (a : FVec Ideal S8x2048 .f32) (x : Vec Ideal S512x2048 .f32) (n : ℕ) (i : S8x2048.Idx) :
    addRows a x n i = a i + ∑ k ∈ Finset.range n, gel (x (ix2 ⟨(8 * k + (i 0).val) % 512, Nat.mod_lt _ (by decide)⟩ (i 1))) := by
  induction n with
  | zero => simp [addRows]
  | succ n ih =>
    rw [Finset.sum_range_succ, ← add_assoc, ← ih]
    exact congrArg (addRows a x n i + ·) (act_eq _)

variable (m : (ℓ : Loc nD τ sig) → Buf (Elt Ideal) ℓ)

theorem w0_eq (n : ℕ) (h : n < 48) : w0 (pt n) = BitVec.ofNat 32 n := by
  have : ∀ k : Fin 48, w0 (pt k.val) = BitVec.ofNat 32 k.val := by decide +kernel
  exact this ⟨n, h⟩

theorem pt_lt (n : ℕ) (h : n < 48) : (pt n).val = n := Nat.mod_eq_of_lt h

theorem accN_apply (c : Dev nD) (n : ℕ) (hn : n ≤ 16) (i : S8x2048.Idx) :
    accN m c n i = ∑ k ∈ Finset.range (128 * n), gel (flat (aX m c) (8 * k + (i 0).val) (i 1)) := by
  have h8 : (i 0).val < 8 := (i 0).isLt
  induction n with
  | zero => exact Ideal.ofBits_zero_f32
  | succ n ih =>
    have ih := ih (by omega)
    have hx : xb (pt n).val = n := by rw [pt_lt n (by omega)]; exact if_pos (by omega)
    rw [show 128 * (n + 1) = 128 * n + (64 + 64) by ring, Finset.sum_range_add, Finset.sum_range_add, ← ih, ← add_assoc]
    show accStep _ _ _ _ i = _
    rw [accStep_eq, addRows_apply, addRows_apply]
    congr 1
    · congr 1
      · rw [w0_eq n (by omega)]
        by_cases h0 : n = 0
        · subst h0; rfl
        · have : Scalar.cmpi .eq (BitVec.ofNat 32 n) 0#32 = 0#1 := by
            have : ∀ k : Fin 16, k.val ≠ 0 → Scalar.cmpi .eq (BitVec.ofNat 32 k.val) 0#32 = 0#1 := by decide +kernel
            exact this ⟨n, by omega⟩ h0
          rw [this]; rfl
      · refine Finset.sum_congr rfl fun k hk => ?_
        have hk := Finset.mem_range.1 hk
        rw [blk2, hx]
        refine congrArg (fun p => gel (flat (aX m c) p (i 1))) ?_
        show 1024 * n + (8 * k + (i 0).val) % 512 = _
        omega
    · refine Finset.sum_congr rfl fun k hk => ?_
      have hk := Finset.mem_range.1 hk
      rw [blk3, hx]
      refine congrArg (fun p => gel (flat (aX m c) p (i 1))) ?_
      show 1024 * n + 512 + (8 * k + (i 0).val) % 512 = _
      omega

/-- Rows taken eight at a time are the rows. -/
theorem sum_eights (g : ℕ → EReal) (n : ℕ) : (∑ i : Fin 8, ∑ k ∈ Finset.range n, g (8 * k + i.val)) = ∑ p ∈ Finset.range (8 * n), g p := by
  rw [Finset.sum_comm]
  induction n with
  | zero => simp
  | succ n ih =>
    rw [Finset.sum_range_succ, ih, show 8 * (n + 1) = 8 * n + 8 by ring, Finset.sum_range_add, Finset.sum_range fun x => g (8 * n + x)]

theorem accN_total (c : Dev nD) (d : Fin 2048) :
    (∑ i : Fin 8, accN m c 16 (ix2 i d)) = ∑ p : Fin 16384, gel (aX m c (ix3 ⟨p.val / 4096, by omega⟩ ⟨p.val % 4096, Nat.mod_lt _ (by decide)⟩ d)) := by
  simp only [accN_apply m c 16 le_rfl]
  refine (sum_eights (fun p => gel (flat (aX m c) p d)) 2048).trans ?_
  rw [Finset.sum_range]
  refine Finset.sum_congr rfl fun p _ => ?_
  refine congrArg (fun q => gel (aX m c (ix3 q _ d))) (Fin.ext ?_)
  exact Nat.mod_eq_of_lt (by omega)

end Cert.KernelIdeal.Hand
-- ==== Proof.Value.Pay.lean ====
/- What the kernel's pieces compute at exact arithmetic, entry by entry. -/
module

public import proofs.«01_k».proof.Proof.Value.Sum
public import proofs.«01_k».proof.Proof.Value.First

@[expose] public section

set_option maxRecDepth 16384

noncomputable section

namespace Cert.KernelIdeal.Hand

open Cert.KernelIdeal.Gen Cert.Arith
open Idealize.ShloMosaic Idealize.ShloMosaic.TcCoe

theorem pay2_apply (a : Vec Ideal S8x2048 .f32) (d : Fin 2048) :
    k0_pay2 (F := Ideal) a (ix2 0 d) = unitV (fun d => ∑ i : Fin 8, a (ix2 i d)) d := by
  unfold k0_pay2 unitV floorNorm
  rw [← lit_eps]
  pointwise
  rw [Fin.sum_univ_one]
  rfl

theorem pay150_apply (mn : Vec Ideal S1x2048 .f32) (b : Vec Ideal S512x2048 .f32) (r : Fin 512) :
    k0_pay150 (F := Ideal) mn b (ix2 r 0) = cosK (fun d => b (ix2 r d)) (fun d => mn (ix2 0 d)) := by
  unfold k0_pay150 cosK floorNorm
  rw [← lit_eps]
  pointwise

/-- A family on a nonempty finite range has a first greatest entry. -/
theorem exists_first {n : ℕ} (v : Fin (n + 1) → EReal) : ∃ p, IsFirst v p := by
  obtain ⟨q, hq⟩ := Finite.exists_max v
  have hne : (Finset.univ.filter fun p => ∀ r, v r ≤ v p).Nonempty := ⟨q, Finset.mem_filter.2 ⟨Finset.mem_univ _, hq⟩⟩
  refine ⟨Finset.min' _ hne, fun r => ⟨(Finset.mem_filter.1 (Finset.min'_mem _ hne)).2 r, fun h => Finset.min'_le _ _ (Finset.mem_filter.2 ⟨Finset.mem_univ _, fun s => ?_⟩)⟩⟩
  rw [h]
  exact (Finset.mem_filter.1 (Finset.min'_mem _ hne)).2 s

theorem pay151_eq (mn : Vec Ideal S1x2048 .f32) (b : Vec Ideal S512x2048 .f32) (v : Fin 512 → EReal) (hv : ∀ r, k0_pay150 (F := Ideal) mn b (ix2 r 0) = v r)
    (p : Fin 512) (hp : IsFirst v p) : k0_pay151 (F := Ideal) mn b = v p := by
  unfold k0_pay151
  pointwise
  rw [lit_neg_inf]
  refine le_antisymm (Finset.fold_max_le _ |>.2 ⟨bot_le, fun x _ => ?_⟩) (Finset.le_fold_max _ |>.2 (Or.inr ⟨(p, 0), Finset.mem_univ _, (hv p).ge⟩))
  exact (hv x.1).trans_le (hp x.1).1

theorem pay148_apply (n : ℕ) (h : n < 16) (r : Fin 512) : k0_pay148 (BitVec.ofNat 32 (16 + n)) (ix2 r 0) = BitVec.ofNat 32 (512 * n + r.val) := by
  unfold k0_pay148
  pointwise
  show (BitVec.ofNat 32 (16 + n) - 16#32) * 512#32 + BitVec.ofNat 32 r.val = _
  apply BitVec.eq_of_toNat_eq
  simp only [BitVec.toNat_add, BitVec.toNat_mul, BitVec.toNat_sub, BitVec.toNat_ofNat]
  omega

theorem pay154_apply (i : S8x1024.Idx) : k0_pay154 i = BitVec.ofNat 32 (lay i).val := by
  unfold k0_pay154 lay
  pointwise
  show BitVec.ofNat 32 (i 0).val * 1024#32 + BitVec.ofNat 32 (i 1).val = _
  apply BitVec.eq_of_toNat_eq
  simp only [BitVec.toNat_add, BitVec.toNat_mul, BitVec.toNat_ofNat]
  omega

theorem toInt_minsi (a b : BitVec 32) : (IntOp.minsi a b).toInt = min a.toInt b.toInt := by
  unfold IntOp.minsi
  simp only [BitVec.slt, BitVec.sle]
  split <;> rename_i h <;> simp at h <;> omega

/-- The least of a family of words is the one no word is below. -/
theorem fold_minsi {ι : Type} [Fintype ι] (f : ι → BitVec 32) (b : BitVec 32) (p : ι) (hf : ∀ x, (f p).toInt ≤ (f x).toInt) (hb : (f p).toInt ≤ b.toInt) :
    Finset.univ.fold IntOp.minsi b f = f p := by
  apply BitVec.eq_of_toInt_eq
  rw [← Finset.fold_hom (op' := min) toInt_minsi]
  exact le_antisymm (Finset.fold_min_le _ |>.2 (Or.inr ⟨p, Finset.mem_univ _, le_rfl⟩)) (Finset.le_fold_min _ |>.2 ⟨hb, fun x _ => hf x⟩)

theorem toInt_id (n : ℕ) (h : n < 2 ^ 31) : (BitVec.ofNat 32 n).toInt = n := by
  have hm : n % 2 ^ 32 = n := Nat.mod_eq_of_lt (by omega)
  rw [BitVec.toInt_eq_toNat_of_lt (by rw [BitVec.toNat_ofNat, hm]; omega), BitVec.toNat_ofNat, hm]

theorem pay152_eq (n : ℕ) (h : n < 16) (mn : Vec Ideal S1x2048 .f32) (b : Vec Ideal S512x2048 .f32) (v : Fin 512 → EReal) (hv : ∀ r, k0_pay150 (F := Ideal) mn b (ix2 r 0) = v r)
    (p : Fin 512) (hp : IsFirst v p) : extractAt ![0, 0, 0] (k0_pay152 (F := Ideal) (BitVec.ofNat 32 (16 + n)) mn b) inpos_S1x1x1_p0_0_0 = BitVec.ofNat 32 (512 * n + p.val) := by
  unfold k0_pay152
  rw [pay151_eq mn b v hv p hp]
  pointwise
  have key (x : Fin 512) : Scalar.select (FloatOps.cmpf (F := Ideal) (φ := .f32) CmpFPredicate.oeq (k0_pay150 (F := Ideal) mn b (ix2 x 0)) (v p))
      (k0_pay148 (BitVec.ofNat 32 (16 + n)) (ix2 x 0)) 1073741824#32 = if v x = v p then BitVec.ofNat 32 (512 * n + x.val) else 1073741824#32 := by
    rw [hv, pay148_apply n h, Ideal.cmpf_def]
    by_cases hx : v x = v p <;> simp [Ideal.cmp, Scalar.select, hx]
  refine (fold_minsi _ _ (p, 0) (fun x => ?_) ?_).trans ((key p).trans (if_pos rfl))
  · refine (congrArg BitVec.toInt ((key p).trans (if_pos rfl))).trans_le (le_of_le_of_eq ?_ (congrArg BitVec.toInt (key x.1)).symm)
    rw [toInt_id _ (by omega)]
    split_ifs with hx
    · rw [toInt_id _ (by omega)]
      have := (hp x.1).2 hx
      have : p.val ≤ x.1.val := this
      omega
    · rw [show (1073741824#32).toInt = 1073741824 from rfl]; omega
  · refine (congrArg BitVec.toInt ((key p).trans (if_pos rfl))).trans_le ?_
    rw [toInt_id _ (by omega), show (2147483647#32).toInt = 2147483647 from rfl]; omega

theorem select_eq {α : Type} {w : ℕ} (a b : BitVec w) (x y : α) : Scalar.select (IntOp.cmpi .eq a b) x y = if a = b then x else y := by
  have h : IntOp.cmpi .eq a b = BitVec.ofBool (a == b) := rfl
  rw [h]
  by_cases hx : a = b
  · subst hx; simp [Scalar.select]
  · rw [beq_eq_false_iff_ne.2 hx, if_neg hx]; rfl

theorem pay5_apply (g : Ideal .f32) (x : Vec Ideal S512x2048 .f32) (i : S512x2048.Idx) : k0_pay5 (F := Ideal) g x i = gel (x i) * g := by
  rw [← act_eq]
  unfold k0_pay5
  simp only [shapeCast_self]
  rfl

theorem pay6_apply (g : Ideal .f32) (x : Vec Ideal S512x2048 .f32) (i : S512x2048.Idx) : k0_pay6 (F := Ideal) g x i = gel (x i) * g := by
  rw [← act_eq]
  unfold k0_pay6
  simp only [shapeCast_self]
  rfl

theorem pay149_apply (n : ℕ) (h : n < 16) (mn : Vec Ideal S1x2048 .f32) (b : Vec Ideal S512x2048 .f32) (p : BitVec 32) (r : Fin 512) (d : Fin 2048) :
    k0_pay149 (F := Ideal) (BitVec.ofNat 32 (16 + n)) mn b p (ix2 r d) = if BitVec.ofNat 32 (512 * n + r.val) = p then mn (ix2 0 d) else b (ix2 r d) := by
  rw [← pay148_apply n h r]
  unfold k0_pay149
  pointwise
  exact select_eq _ _ _ _

end Cert.KernelIdeal.Hand
-- ==== Proof.Value.Best.lean ====
/- The kernel's search for the closest stored direction, its gate and its new levels, at exact arithmetic. -/
module

public import proofs.«01_k».proof.Proof.Value.Pay

@[expose] public section

set_option maxRecDepth 16384

noncomputable section

namespace Cert.KernelIdeal.Hand

open Cert.KernelIdeal.Gen Cert.Arith
open Idealize.ShloMosaic Idealize.ShloMosaic.TcCoe

variable (m : (ℓ : Loc nD τ sig) → Buf (Elt Ideal) ℓ)

/-- The column sums of the activations. -/
def colK (c : Dev nD) (d : Fin 2048) : EReal :=
  ∑ p : Fin 16384, gel (aX m c (ix3 ⟨p.val / 4096, by omega⟩ ⟨p.val % 4096, Nat.mod_lt _ (by decide)⟩ d))

theorem mnV_apply (c : Dev nD) (d : Fin 2048) : mnV m c (ix2 0 d) = unitV (colK m c) d :=
  (pay2_apply _ d).trans (congrArg (fun v => unitV v d) (funext fun d => accN_total m c d))

/-- The similarities of the stored directions with the mean direction. -/
def simK (c : Dev nD) (r : Fin 8192) : EReal := cosK (fun d => aB m c (ix2 r d)) (unitV (colK m c))

theorem block_sim (c : Dev nD) (j : ℕ) (hj : j < 16) (r : Fin 512) :
    k0_pay150 (F := Ideal) (mnV m c) (iblk m c 4 (pt (16 + j))) (ix2 r 0) = simK m c ⟨512 * j + r.val, by omega⟩ := by
  rw [pay150_apply]
  unfold simK
  refine congrArg₂ cosK (funext fun d => ?_) (funext fun d => mnV_apply m c d)
  refine blk4 m c _ (ix2 r d) _ ?_
  rw [pt_lt _ (by omega), show bb (16 + j) = j by unfold bb; split_ifs <;> omega]
  show 512 * j + r.val = j * 512 + r.val
  omega

theorem ogt_iff (x y : Ideal .f32) : Scalar.cmpf (F := Ideal) .ogt x y = 1#1 ↔ (y : EReal) < x := by
  show BitVec.ofBool (decide (y < x)) = 1#1 ↔ _
  by_cases h : y < x <;> simp [h]

/-- After a number of blocks, the greatest similarity so far and its first place. -/
theorem search (c : Dev nD) (j : ℕ) (hj : j ≤ 16) :
    (j = 0 ∧ sN m c j = ((-2 : ℝ) : EReal))
    ∨ ∃ q : Fin 8192, q.val < 512 * j ∧ (∀ r : Fin 8192, r.val < 512 * j → simK m c r ≤ simK m c q ∧ (simK m c r = simK m c q → q ≤ r))
        ∧ sN m c j = simK m c q ∧ iN m c j = BitVec.ofNat 32 q.val := by
  induction j with
  | zero => exact Or.inl ⟨rfl, lit_neg_two⟩
  | succ j ih =>
    right
    let v : Fin 512 → EReal := fun r => simK m c ⟨512 * j + r.val, by omega⟩
    obtain ⟨p, hp⟩ := exists_first (n := 511) v
    have hM := pay151_eq _ _ v (block_sim m c j (by omega)) p hp
    have hI := pay152_eq j (by omega) _ _ v (block_sim m c j (by omega)) p hp
    have hs : sN m c (j + 1) = if sN m c j < v p then v p else sN m c j := by
      show bestS _ _ _ = _
      unfold bestS
      simp only [hM, ogt_iff]
    have hi : iN m c (j + 1) = if sN m c j < v p then BitVec.ofNat 32 (512 * j + p.val) else iN m c j := by
      show bestI _ _ _ _ _ = _
      unfold bestI
      simp only [hM, ogt_iff, w0_eq (16 + j) (by omega), hI]
    have hblk (r : Fin 8192) (h1 : 512 * j ≤ r.val) (h2 : r.val < 512 * (j + 1)) : simK m c r = v ⟨r.val - 512 * j, by omega⟩ :=
      congrArg (simK m c) (Fin.ext (show r.val = 512 * j + (r.val - 512 * j) by omega))
    by_cases hlt : sN m c j < v p
    · rw [if_pos hlt] at hs hi
      refine ⟨⟨512 * j + p.val, by omega⟩, show 512 * j + p.val < _ by omega, fun r hr => ?_, hs, hi⟩
      by_cases hr' : r.val < 512 * j
      · rcases ih (by omega) with ⟨h0, _⟩ | ⟨q, hq, hall, hsq, hiq⟩
        · omega
        · have := (hall r hr').1.trans_lt (hsq ▸ hlt)
          exact ⟨this.le, fun h => absurd h this.ne⟩
      · rw [hblk r (by omega) hr]
        refine ⟨(hp _).1, fun h => ?_⟩
        have h : p.val ≤ r.val - 512 * j := (hp _).2 h
        show 512 * j + p.val ≤ r.val
        omega
    · rw [if_neg hlt] at hs hi
      rcases ih (by omega) with ⟨h0, hs0⟩ | ⟨q, hq, hall, hsq, hiq⟩
      · exact absurd (hs0 ▸ neg_two_lt_cosK _ _) hlt
      · refine ⟨q, by omega, fun r hr => ?_, hs.trans hsq, hi.trans hiq⟩
        by_cases hr' : r.val < 512 * j
        · exact hall r hr'
        · rw [hblk r (by omega) hr]
          refine ⟨(hp _).1.trans (hsq ▸ not_lt.1 hlt), fun _ => ?_⟩
          show q.val ≤ r.val
          omega

theorem search_end (c : Dev nD) : ∃ q : Fin 8192, IsFirst (simK m c) q ∧ sN m c 16 = simK m c q ∧ iN m c 16 = BitVec.ofNat 32 q.val := by
  rcases search m c 16 le_rfl with ⟨h, _⟩ | ⟨q, _, hall, hs, hi⟩
  · omega
  · exact ⟨q, fun r => hall r (by omega), hs, hi⟩

/-! ## Gate and levels -/

theorem word_eq (a b : Fin 8192) : BitVec.ofNat 32 a.val = BitVec.ofNat 32 b.val ↔ a = b := by
  refine ⟨fun h => Fin.ext ?_, fun h => by rw [h]⟩
  have := congrArg BitVec.toNat h
  simp only [BitVec.toNat_ofNat] at this
  omega

theorem lay_val (x : Fin 8) (y : Fin 1024) : (lay (ix2 x y)).val = x.val * 1024 + y.val := rfl

theorem sum_at (D : Fin 8192 → EReal) (q : Fin 8192) : (∑ x : Fin 8, ∑ y : Fin 1024, if lay (ix2 x y) = q then D (lay (ix2 x y)) else 0) = D q := by
  have hne (x : Fin 8) (y : Fin 1024) (h : lay (ix2 x y) = q) : x.val * 1024 + y.val = q.val := congrArg Fin.val h
  rw [Finset.sum_eq_single (⟨q.val / 1024, by omega⟩ : Fin 8), Finset.sum_eq_single (⟨q.val % 1024, by omega⟩ : Fin 1024)]
  · have h : lay (ix2 (⟨q.val / 1024, by omega⟩ : Fin 8) (⟨q.val % 1024, by omega⟩ : Fin 1024)) = q :=
      Fin.ext (show q.val / 1024 * 1024 + q.val % 1024 = q.val by omega)
    rw [if_pos h, h]
  · intro y _ hy
    refine if_neg fun h => hy (Fin.ext ?_)
    have := hne _ y h
    show y.val = q.val % 1024
    simp only at this
    omega
  · exact fun h => absurd (Finset.mem_univ _) h
  · intro x _ hx
    refine Finset.sum_eq_zero fun y _ => if_neg fun h => hx (Fin.ext ?_)
    have := hne x y h
    show x.val = q.val / 1024
    omega
  · exact fun h => absurd (Finset.mem_univ _) h

theorem pay155_apply (q : Fin 8192) (dp : Vec Ideal S8x1024 .f32) (D : Fin 8192 → EReal) (hD : ∀ i, dp i = D (lay i)) (lk : Ideal .f32) :
    k0_pay155 (F := Ideal) (BitVec.ofNat 32 q.val) dp lk
      = Ideal.exp (-(min (Ideal.ofBits .f32 0x41000000#32) (max (Ideal.ofBits .f32 0x3DCCCCCD#32) (Ideal.exp lk))) * (1 - D q)) := by
  unfold k0_pay155 k0_pay153
  simp only [shapeCast_self]
  pointwise
  simp only [pay154_apply, select_eq, word_eq, hD]
  rw [sum_at, zero_sub]
  rfl

theorem pay156_apply (s : Ideal .f32) (q : Fin 8192) (dp : Vec Ideal S8x1024 .f32) (i : S8x1024.Idx) :
    k0_pay156 (F := Ideal) s (BitVec.ofNat 32 q.val) dp i
      = if lay i = q then dp i * (if Ideal.ofBits .f32 0x3F59999A#32 < s then ((1 / 2 : ℝ) : EReal) else 1) else dp i := by
  unfold k0_pay156 k0_pay153
  simp only [shapeCast_self]
  pointwise
  simp only [pay154_apply, select_eq, word_eq, lit_half]
  by_cases h : Ideal.ofBits .f32 0x3F59999A#32 < s <;> simp [Ideal.cmp, Scalar.select, h]

/-- The gate, the new levels, the new mask and the new directions, entry by entry, at the nearest row. -/
theorem gateV_eq (c : Dev nD) (q : Fin 8192) (hq : iN m c 16 = BitVec.ofNat 32 q.val) (j : S_.Idx) :
    gateV m c = Ideal.exp (-(min (Ideal.ofBits .f32 0x41000000#32) (max (Ideal.ofBits .f32 0x3DCCCCCD#32) (Ideal.exp (aK m c j)))) * (1 - aD m c (ix1 q))) := by
  unfold gateV
  rw [hq, blk0 m c _ j]
  exact pay155_apply q _ (fun q => aD m c (ix1 q)) (fun i => blk6 m c _ i) _

theorem ndeplV_apply (c : Dev nD) (q : Fin 8192) (hq : iN m c 16 = BitVec.ofNat 32 q.val) (hs : sN m c 16 = simK m c q) (j : S_.Idx) (i : S8x1024.Idx) :
    ndeplV m c i = if BitVec.ofNat 32 (lay i).val = aP m c j then 1
      else if lay i = q then aD m c (ix1 (lay i)) * (if Ideal.ofBits .f32 0x3F59999A#32 < simK m c q then ((1 / 2 : ℝ) : EReal) else 1) else aD m c (ix1 (lay i)) := by
  unfold ndeplV k0_pay3 k0_pay157
  rw [hq, hs, blk1 m c _ j]
  refine (select_eq _ _ _ _).trans ?_
  rw [pay156_apply, blk6, pay154_apply]
  refine if_congr Iff.rfl ?_ rfl
  exact Ideal.ofBits_one_f32

theorem nmaskV_apply (c : Dev nD) (j : S_.Idx) (i : S8x1024.Idx) :
    nmaskV m c i = if BitVec.ofNat 32 (lay i).val = aP m c j then 1#8 else (aM m c (ix1 (lay i))).setWidth 8 := by
  unfold nmaskV k0_pay4
  rw [blk1 m c _ j, shapeCast_self]
  refine (select_eq _ _ _ _).trans ?_
  rw [blk5, pay154_apply]
  rfl

theorem nbufV_apply (c : Dev nD) (n : ℕ) (h : n < 16) (j : S_.Idx) (i : S512x2048.Idx) (r : Fin 8192) (hr : r.val = 512 * n + (i 0).val) :
    nbufV m c (pt (16 + n)) i = if BitVec.ofNat 32 r.val = aP m c j then unitV (colK m c) (i 1) else aB m c (ix2 r (i 1)) := by
  unfold nbufV
  obtain ⟨a, d, rfl⟩ : ∃ (a : Fin 512) (d : Fin 2048), i = ix2 a d := ⟨i 0, i 1, by funext k; match k with | ⟨0, _⟩ => rfl | ⟨1, _⟩ => rfl⟩
  have hr : r.val = 512 * n + a.val := hr
  rw [w0_eq _ (by omega), blk1 m c _ j, pay149_apply n h, mnV_apply, ← hr]
  refine if_congr Iff.rfl rfl ?_
  refine blk4 m c _ (ix2 a d) r ?_
  rw [pt_lt _ (by omega), show bb (16 + n) = n by unfold bb; split_ifs <;> omega]
  show r.val = n * 512 + a.val
  omega

theorem outC_apply (g : Ideal .f32) (x y : Vec Ideal S512x2048 .f32) (G : ℕ → Fin 2048 → EReal) (hx : ∀ i, x i = G (i 0).val (i 1)) (hy : ∀ i, y i = G (512 + (i 0).val) (i 1))
    (i : S1024x2048.Idx) : outC (F := Ideal) g x y i = gel (G (i 0).val (i 1)) * g := by
  have h0 : (i 0).val < 1024 := (i 0).isLt
  unfold outC
  split_ifs with h h'
  · rw [pay6_apply, hy]
    refine congrArg₂ (fun a b => gel (G a b) * g) ?_ (Fin.ext ?_)
    · show 512 + ((i 0).val - 512) = (i 0).val
      have : 512 ≤ (i 0).val := h.1
      omega
    · show (i 1).val - 0 = (i 1).val
      omega
  · rw [pay5_apply, hx]
    exact congrArg₂ (fun a b => gel (G a b) * g) (Nat.sub_zero _) (Fin.ext (Nat.sub_zero _))
  · exfalso
    have h : ¬ (512 ≤ (i 0).val ∧ (i 0).val < 1024) := h
    have h' : ¬ (0 ≤ (i 0).val ∧ (i 0).val < 512) := h'
    omega

end Cert.KernelIdeal.Hand
-- ==== Proof.Value.Arrays.lean ====
/- The kernel's result arrays at exact arithmetic. -/
module

public import proofs.«01_k».proof.Proof.Value.Best

@[expose] public section

set_option maxRecDepth 16384

noncomputable section

namespace Cert.KernelIdeal.Hand

open Cert.KernelIdeal.Gen Cert.Arith
open Idealize.ShloMosaic Idealize.ShloMosaic.TcCoe

variable (m : (ℓ : Loc nD τ sig) → Buf (Elt Ideal) ℓ)

theorem ix0_9 : ∀ t : Fin cfg0.N, win0_9.index t = ![0, 0] := (by decide +kernel : ∀ t : Fin grid0.N, _)
theorem ix0_10 : ∀ t : Fin cfg0.N, win0_10.index t = ![0, 0] := (by decide +kernel : ∀ t : Fin grid0.N, _)

/-- The gated activations, the input flattened. -/
def outK (c : Dev nD) : Vec Ideal S16384x2048 .f32 := fun i => gel (flat (aX m c) (i 0).val (i 1)) * gateV m c

/-- The stored directions with the new one written. -/
def bufK (c : Dev nD) : Vec Ideal S8192x2048 .f32 := fun i =>
  if BitVec.ofNat 32 (i 0).val = aP m c (fun a => a.elim0) then unitV (colK m c) (i 1) else aB m c i

theorem final7 (c : Dev nD) : (dats m 0 c).arrAt 7 cfg0.N = outK m c := by
  refine (dats m 0 c).arrAt_eq_of_covers 7 _ (by decide +kernel) fun t hf y => ?_
  have ht : 32 ≤ t.val := by
    by_contra h
    rw [flush7 t (by omega)] at hf
    exact absurd hf (by decide)
  have hN : t.val < 48 := lt_of_lt_of_eq t.isLt N_0
  blk_simp
  rw [after0_7]
  refine (outC_apply _ _ _ (fun a d => flat (aX m c) (1024 * xb t.val + a) d) (fun i => blk2 m c t i) (fun i => ?_) y).trans ?_
  · rw [blk3, Nat.add_assoc]
  · unfold outK
    refine congrArg (· * gateV m c) (congrArg gel (congrArg₂ (flat (aX m c)) ?_ (Fin.ext ?_)))
    · blk_simp [ix0_7]
      unfold xb
      rw [if_neg (by omega), if_neg (by omega)]
      simp [show ¬ t.val < 32 by omega]
      omega
    · blk_simp [ix0_7]

theorem flush8_at : ∀ t : Fin cfg0.N, (cfg0.win 8).flush t = true → min t.val 31 = 16 + bb t.val ∧ bb t.val < 16 :=
  (by decide +kernel : ∀ t : Fin grid0.N, _)

theorem final8 (c : Dev nD) : (dats m 0 c).arrAt 8 cfg0.N = bufK m c := by
  refine (dats m 0 c).arrAt_eq_of_covers 8 _ (by decide +kernel) fun t hf y => ?_
  obtain ⟨h1, h2⟩ := flush8_at t hf
  blk_simp
  rw [after0_8, h1]
  have h0 : (y 0).val < 512 := (y 0).isLt
  have e0 : (((cfg0.win 8).blk t).view.emb y 0).val = 512 * bb t.val + (y 0).val := by
    blk_simp [ix0_8]; simp; omega
  have e1 : (((cfg0.win 8).blk t).view.emb y 1).val = (y 1).val := by
    blk_simp [ix0_8]
  refine (nbufV_apply m c _ h2 (fun a => a.elim0) y (((cfg0.win 8).blk t).view.emb y 0) e0).trans ?_
  unfold bufK
  refine if_congr Iff.rfl (congrArg (unitV (colK m c)) (Fin.ext e1.symm)) (congrArg (aB m c) (funext fun a => ?_))
  match a with
  | ⟨0, _⟩ => rfl
  | ⟨1, _⟩ => exact Fin.ext e1.symm

theorem final9 (c : Dev nD) : (dats m 0 c).arrAt 9 cfg0.N = ndeplV m c := by
  refine (dats m 0 c).arrAt_eq_of_after_last 9 (pt 47) (by decide +kernel) _ fun y => ?_
  blk_simp
  rw [after0_9]

theorem final10 (c : Dev nD) : (dats m 0 c).arrAt 10 cfg0.N = nmaskV m c := by
  refine (dats m 0 c).arrAt_eq_of_after_last 10 (pt 47) (by decide +kernel) _ fun y => ?_
  blk_simp
  rw [after0_10]

end Cert.KernelIdeal.Hand
-- ==== Proof.Value.Tail.lean ====
/- The kernel's run at exact arithmetic: what its four results hold at the end. -/
module

public import proofs.«01_k».proof.Proof.Value.Arrays
public import proofs.«01_k».proof.Proof.Ideal.Sound

@[expose] public section

set_option maxRecDepth 16384

noncomputable section

namespace Cert.KernelIdeal.Hand

open Cert.KernelIdeal.Gen Cert.Arith
open Idealize.ShloMosaic Idealize.ShloMosaic.TcCoe Idealize.ShloMosaic.StableHlo Idealize.SL.Sem

variable (m : (ℓ : Loc nD τ sig) → Buf (Elt Ideal) ℓ) (ρ : Dev nD → PrngReg)

/-- What the arrays hold when the host operations after the call start. -/
abbrev W1 (c : Dev nD) : Valuation τ sig (Elt Ideal) :=
  Pipeline.withArrays (cfgs 0).spec c (V0 m c) fun w => (dats m 0 c).arrAt w (cfgs 0).N

theorem W1_at (c : Dev nD) (w : Fin cfg0.W) : W1 m c (Proc.devRef .tc (Pipeline.arrRef spec0 w)) = (dats m 0 c).arrAt w cfg0.N :=
  (dats m 0 c).withArrays_arrAt (cfg := cfg0) (by decide) (V0 m c) (A_eq m c) w

theorem W1_v6_0 (c : Dev nD) : W1 m c (Proc.devRef .tc main_v6_0) = outK m c := (W1_at m c 7).trans (final7 m c)
theorem W1_v6_2 (c : Dev nD) : W1 m c (Proc.devRef .tc main_v6_2) = ndeplV m c := (W1_at m c 9).trans (final9 m c)
theorem W1_v6_3 (c : Dev nD) : W1 m c (Proc.devRef .tc main_v6_3) = nmaskV m c := (W1_at m c 10).trans (final10 m c)

/-- The four results. -/
def res0 (c : Dev nD) : Vec Ideal S4x4096x2048 .f32 := shapeCast (s := S16384x2048) S4x4096x2048 (outK m c) shapeCasts_S16384x2048_S4x4096x2048
@[inherit_doc res0] def res2 (c : Dev nD) : Vec Ideal S8192 .f32 := shapeCast (s := S8x1024) S8192 (ndeplV m c) shapeCasts_S8x1024_S8192
@[inherit_doc res0] def res3 (c : Dev nD) : Vec Ideal S8192 .i1 :=
  cmpi .ne (shapeCast (s := S8x1024) S8192 (nmaskV m c) shapeCasts_S8x1024_S8192) (broadcastInDim S8192 ![] bcast_S_S8192 (constantI S_ 8 0#8))

theorem tail_v7 (c : Dev nD) : Pipeline.afterTail₀ cfgs (dats m) 0 (V0 m) [hostOps1] c main_v7 = res0 m c := by
  show StableHlo.after [hostOps1].flatten (W1 m c) _ = _
  unfold res0
  rw [← W1_v6_0]
  simp only [hostOps1, List.flatten_cons, List.flatten_nil, List.append_nil]
  after_results_simp_entrywise
  rfl

theorem tail_v8 (c : Dev nD) : Pipeline.afterTail₀ cfgs (dats m) 0 (V0 m) [hostOps1] c main_v8 = res2 m c := by
  show StableHlo.after [hostOps1].flatten (W1 m c) _ = _
  unfold res2
  rw [← W1_v6_2]
  simp only [hostOps1, List.flatten_cons, List.flatten_nil, List.append_nil]
  after_results_simp_entrywise
  rfl

theorem tail_v12 (c : Dev nD) : Pipeline.afterTail₀ cfgs (dats m) 0 (V0 m) [hostOps1] c main_v12 = res3 m c := by
  show StableHlo.after [hostOps1].flatten (W1 m c) _ = _
  unfold res3
  rw [← W1_v6_3]
  simp only [hostOps1, List.flatten_cons, List.flatten_nil, List.append_nil]
  after_results_simp_entrywise
  rfl

/-- The run: the four results at those values. -/
theorem run_values : θ_run defs (onTc (τ := τ) (main (F := Ideal))) ⟨m, fun _ => 0, ρ⟩ fun r => ∀ c : Dev nD,
      r.2.mem ((c.tc : Thread nD τ).loc main_v7) = res0 m c
      ∧ r.2.mem ((c.tc : Thread nD τ).loc main_v6_1) = bufK m c
      ∧ r.2.mem ((c.tc : Thread nD τ).loc main_v8) = res2 m c
      ∧ r.2.mem ((c.tc : Thread nD τ).loc main_v12) = res3 m c :=
  (θ_run defs _ _).mono (fun r h c => ⟨
      (h.rest_eq c main_v7 (Pipeline.mem_restRefs_of main_v7 (by decide) (by decide))).trans (tail_v7 m c),
      (h.out_eq c 8).trans (final8 m c),
      (h.rest_eq c main_v8 (Pipeline.mem_restRefs_of main_v8 (by decide) (by decide))).trans (tail_v8 m c),
      (h.rest_eq c main_v12 (Pipeline.mem_restRefs_of main_v12 (by decide) (by decide))).trans (tail_v12 m c)⟩) (run_main m ρ)

/-! ## The results at an index -/

theorem res0_apply (c : Dev nD) (i : S4x4096x2048.Idx) : res0 m c i = gel (aX m c i) * gateV m c := by
  have h0 : (i 0).val < 4 := (i 0).isLt
  have h1 : (i 1).val < 4096 := (i 1).isLt
  unfold res0
  refine (shapeCast_apply _ _ _ (ix2 (⟨(i 0).val * 4096 + (i 1).val, by omega⟩ : Fin 16384) (i 2)) ?_).trans ?_
  · rw [Shape.rowMajor_val_two, Shape.rowMajor_val_three]
    rfl
  · unfold outK flat
    refine congrArg (fun j => gel (aX m c j) * gateV m c) (funext fun a => Fin.ext ?_)
    match a with
    | ⟨0, _⟩ => show ((i 0).val * 4096 + (i 1).val) / 4096 % 4 = (i 0).val; omega
    | ⟨1, _⟩ => show ((i 0).val * 4096 + (i 1).val) % 4096 = (i 1).val; omega
    | ⟨2, _⟩ => rfl

theorem unlay {α : Type} (x : S8x1024.Idx → α) (r : Fin 8192) :
    ∃ i, lay i = r ∧ shapeCast (s := S8x1024) S8192 x shapeCasts_S8x1024_S8192 (ix1 r) = x i := by
  refine ⟨ix2 (⟨r.val / 1024, by omega⟩ : Fin 8) (⟨r.val % 1024, by omega⟩ : Fin 1024), Fin.ext (show r.val / 1024 * 1024 + r.val % 1024 = r.val by omega), shapeCast_apply _ _ _ _ ?_⟩
  rw [Shape.rowMajor_val_two, Shape.rowMajor_val_one]
  show r.val / 1024 * 1024 + r.val % 1024 = r.val
  omega

theorem res2_apply (c : Dev nD) (q : Fin 8192) (hq : iN m c 16 = BitVec.ofNat 32 q.val) (hs : sN m c 16 = simK m c q) (j : S_.Idx) (r : Fin 8192) :
    res2 m c (ix1 r) = if BitVec.ofNat 32 r.val = aP m c j then 1
      else if r = q then aD m c (ix1 r) * (if Ideal.ofBits .f32 0x3F59999A#32 < simK m c q then ((1 / 2 : ℝ) : EReal) else 1) else aD m c (ix1 r) := by
  obtain ⟨i, rfl, hi⟩ := unlay (ndeplV m c) r
  exact hi.trans (ndeplV_apply m c q hq hs j i)

theorem res3_apply (c : Dev nD) (j : S_.Idx) (r : Fin 8192) :
    res3 m c (ix1 r) = if BitVec.ofNat 32 r.val = aP m c j then 1#1 else aM m c (ix1 r) := by
  obtain ⟨i, rfl, hi⟩ := unlay (nmaskV m c) r
  show IntOp.cmpi .ne (shapeCast (s := S8x1024) S8192 (nmaskV m c) shapeCasts_S8x1024_S8192 (ix1 (lay i))) 0#8 = _
  rw [hi, nmaskV_apply m c j]
  split_ifs
  · rfl
  · have : ∀ b : BitVec 1, IntOp.cmpi .ne (b.setWidth 8) 0#8 = b := by decide
    exact this _

end Cert.KernelIdeal.Hand
-- ==== Proof.Equal.lean ====
/- The kernel and the reference compute the same at exact arithmetic, where every row counts, the pointer is not
   negative, and the mean's norm is zero or at least the floor. -/
module

public import proofs.«01_k».proof.Defs
public import proofs.«01_k».proof.Proof.Value.Ref
public import proofs.«01_k».proof.Proof.Value.Tail
public import Idealize.ShloMosaic.Lib.ReduceAll

@[expose] public section

set_option maxRecDepth 16384

noncomputable section

namespace Cert.Equal

open Cert.Arith
open Idealize.ShloMosaic Idealize.ShloMosaic.TcCoe Idealize.SL.Sem
open Cert.ReferenceIdeal (S_ S8192 S2048 S4x4096x2048 S8192x2048)
open Cert.ReferenceIdeal.Hand (colSum dirOf simOf gateOf decOf Ready meanV out0 out1 out2 out3)

theorem facts : Cert.Pre_ready.Facts := ⟨by decide, by decide, by decide, by decide, by decide, by decide, by decide⟩

attribute [local instance] facts

/-- The one index of a scalar. -/
abbrev o : S_.Idx := fun a => a.elim0

theorem and_one : ∀ a b : BitVec 1, IntOp.andi a b = 1#1 → a = 1#1 ∧ b = 1#1 := by decide
theorem or_one : ∀ a b : BitVec 1, IntOp.ori a b = 1#1 → a = 1#1 ∨ b = 1#1 := by decide
theorem ofBool_one (P : Prop) [Decidable P] (h : BitVec.ofBool (decide P) = 1#1) : P := by
  by_contra hP
  rw [decide_eq_false hP] at h
  exact absurd h (by decide)

/-- What the precondition says. -/
theorem ready_of (x : FVec Ideal S4x4096x2048 .f32) (lk : FVec Ideal S_ .f32) (b : FVec Ideal S8192x2048 .f32) (dp : FVec Ideal S8192 .f32) (k : IVec S8192 1) (p : IVec S_ 32)
    (h : Cert.Pre_ready.fn (F := Ideal) x lk b dp k p = constantI S_ 1 1#1) : (∀ i, k i = 1#1) ∧ 0 ≤ (p o).toInt ∧ Ready x := by
  have h : Cert.Pre_ready.fn (F := Ideal) x lk b dp k p o = 1#1 := congrFun h o
  obtain ⟨h12, h3⟩ := and_one _ _ h
  obtain ⟨h1, h2⟩ := and_one _ _ h12
  refine ⟨fun i => Host.reduce_andi_all k _ _ _ _ h1 i, ?_, ?_⟩
  · have h2 : BitVec.ofBool (BitVec.sle 0#32 (p o)) = 1#1 := h2
    have h2 : BitVec.sle 0#32 (p o) = true := by
      cases hb : BitVec.sle 0#32 (p o)
      · rw [hb] at h2; exact absurd h2 (by decide)
      · rfl
    rw [BitVec.sle] at h2
    exact of_decide_eq_true h2
  · have hn : Ideal.sqrt (Host.reduceAdd (F := Ideal) (mulf (meanV (F := Ideal) x) (meanV (F := Ideal) x)) (constant S_ .f32 0x00000000#32) Cert.Pre_ready.Facts.reducesTo_S2048_S_d0 Cert.Pre_ready.Facts.h_S_ o)
        = Ideal.sqrt (∑ d, meanV (F := Ideal) x (ix1 d) * meanV (F := Ideal) x (ix1 d)) := by
      pointwise
    unfold Ready
    rw [← hn, ← lit_eps]
    rcases or_one _ _ h3 with h3 | h3
    · left
      have h3 : BitVec.ofBool (decide (Ideal.ofBits .f32 0x2B8CBCCC#32 ≤ _)) = 1#1 := h3
      exact ofBool_one _ h3
    · right
      have h3 : BitVec.ofBool (decide (_ = Ideal.ofBits .f32 0x00000000#32)) = 1#1 := h3
      exact (ofBool_one _ h3).trans Ideal.ofBits_zero_f32

/-- A word equals a row's number just when its signed value does. -/
theorem word_iff (w : BitVec 32) (r : Fin 8192) : BitVec.ofNat 32 r.val = w ↔ (r.val : ℤ) = w.toInt := by
  have hr : (BitVec.ofNat 32 r.val).toInt = (r.val : ℤ) := Cert.KernelIdeal.Hand.toInt_id _ (by omega)
  rw [← hr]
  exact ⟨fun h => by rw [h], BitVec.eq_of_toInt_eq⟩

open Cert.KernelIdeal.Hand in
/-- Each result of the kernel is the reference's of the same arguments. -/
theorem results (m : (ℓ : Loc Cert.KernelIdeal.nD Cert.KernelIdeal.τ Cert.KernelIdeal.sig) → Buf (Elt Ideal) ℓ) (c : Dev Cert.KernelIdeal.nD)
    (hk : ∀ i, aM m c i = 1#1) (hp : 0 ≤ (aP m c o).toInt) (hr : Ready (aX m c)) :
    out0 (F := Ideal) (aX m c) (aK m c) (aB m c) (aD m c) (aM m c) = res0 m c
    ∧ out1 (F := Ideal) (aX m c) (aB m c) (aP m c) = bufK m c
    ∧ out2 (F := Ideal) (aX m c) (aB m c) (aD m c) (aM m c) (aP m c) = res2 m c
    ∧ out3 (F := Ideal) (aM m c) (aP m c) = res3 m c := by
  obtain ⟨q, hq, hs, hi⟩ := search_end m c
  obtain ⟨q', hq', he, hv⟩ := Cert.ReferenceIdeal.Hand.arg_first (aB m c) (aM m c) hr hk
  have hsim : simOf (aX m c) (aB m c) = simK m c := rfl
  obtain rfl : q' = q := hq'.unique hq
  have ho : o = Shape.Idx.first Cert.ReferenceIdeal.Gen.h_S_ := Subsingleton.elim _ _
  rw [ho] at hp
  have ix1_eta (i : S8192.Idx) : ∃ r : Fin 8192, i = ix1 r := ⟨i 0, by funext a; match a with | ⟨0, _⟩ => rfl⟩
  have ix2_eta (i : S8192x2048.Idx) : ∃ (r : Fin 8192) (d : Fin 2048), i = ix2 r d := ⟨i 0, i 1, by funext a; match a with | ⟨0, _⟩ => rfl | ⟨1, _⟩ => rfl⟩
  refine ⟨funext fun i => ?_, funext fun i => ?_, funext fun i => ?_, funext fun i => ?_⟩
  · rw [res0_apply, gateV_eq m c q' hi (Shape.Idx.first Cert.ReferenceIdeal.Gen.h_S_)]
    exact Cert.ReferenceIdeal.Hand.out0_apply _ _ _ _ q' he i
  · obtain ⟨r, d, rfl⟩ := ix2_eta i
    refine (Cert.ReferenceIdeal.Hand.out1_apply _ _ hr hp r d).trans ?_
    rw [← ho]
    exact if_congr (word_iff (aP m c o) r).symm rfl rfl
  · obtain ⟨r, rfl⟩ := ix1_eta i
    refine (Cert.ReferenceIdeal.Hand.out2_apply _ _ _ _ q' hp he hv r).trans ?_
    rw [res2_apply m c q' hi hs (Shape.Idx.first Cert.ReferenceIdeal.Gen.h_S_)]
    refine if_congr (word_iff _ r).symm rfl ?_
    by_cases h : r = q'
    · rw [if_pos h, if_pos h, h]; rfl
    · rw [if_neg h, if_neg h]
  · obtain ⟨r, rfl⟩ := ix1_eta i
    refine (Cert.ReferenceIdeal.Hand.out3_apply _ _ hp r).trans ?_
    rw [res3_apply m c (Shape.Idx.first Cert.ReferenceIdeal.Gen.h_S_)]
    exact if_congr (word_iff _ r).symm rfl rfl

/-- The value claim. -/
theorem equal [Cert.KernelIdeal.Facts] [Cert.ReferenceIdeal.Facts] : Cert.algebraic_KernelIdeal_ReferenceIdeal_pre_ready := by
  intro m g m' g' hpre hargs
  refine ⟨Cert.KernelIdeal.Hand.res0 m, Cert.KernelIdeal.Hand.bufK m, Cert.KernelIdeal.Hand.res2 m, Cert.KernelIdeal.Hand.res3 m, ?_, ?_⟩
  · refine (θ_run _ _ _).mono (fun r h c => ?_) (θ_run_and (Cert.KernelIdeal.Hand.run_values m g) (Cert.KernelIdeal.Hand.frame m g))
    exact ⟨(h.1 c).1, (h.1 c).2.1, (h.1 c).2.2.1, (h.1 c).2.2.2, h.2.1 c⟩
  · refine (θ_run _ _ _).mono (fun r h c => ?_) (Cert.ReferenceIdeal.Hand.run m' g')
    obtain ⟨a0, a1, a2, a3, a4, a5⟩ := hargs c
    obtain ⟨hk, hp, hr⟩ := ready_of _ _ _ _ _ _ (hpre c)
    obtain ⟨r0, r1, r2, r3⟩ := results m c hk hp hr
    obtain ⟨h0, h1, h2, h3, hf⟩ := h c
    rw [a0, a1, a2, a3, a4] at h0
    rw [a0, a2, a5] at h1
    rw [a0, a2, a3, a4, a5] at h2
    rw [a4, a5] at h3
    exact ⟨h0.trans r0, h1.trans r1, h2.trans r2, h3.trans r3, hf⟩

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ideal.Sound
public import proofs.«01_k».proof.Proof.Word.Sound
public import proofs.«01_k».proof.Proof.RefRun
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference's frame: it leaves its arguments unchanged, and it has no semaphores. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run _ _ _).mono (fun r h => ⟨fun c => (h c).2.2.2.2, sem_eq_zero_of_no_sems (by decide) r.2⟩) (Cert.ReferenceIdeal.Hand.run m g)

theorem claim : Cert.Claim := ⟨Cert.Kernel.Gen.facts, Cert.KernelIdeal.Gen.facts, Cert.ReferenceIdeal.Gen.facts, Cert.Equal.facts,
  fun m ρ _ => Cert.Kernel.Hand.frame m ρ,
  fun m ρ _ => Cert.KernelIdeal.Hand.frame m ρ,
  fun m ρ _ => Cert.KernelIdeal.Hand.frame m ρ,
  fun m ρ _ => reference_frame m ρ,
  fun m ρ _ => reference_frame m ρ,
  IdealRules.named_const.statement Cert.KernelIdeal.κ "sqc" .f32 0x3D122279#32 ((80338380498831 / 2251799813685248 : ℝ) : EReal) rfl,
  Cert.Equal.equal⟩

end Cert.Proof

end
